-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_in_range_KernelIdeal [hPre_finite_in_range_KernelIdeal : Cert.Pre_finite_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_in_range_ReferenceIdeal [hPre_finite_in_range_ReferenceIdeal : Cert.Pre_finite_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_in_range_KernelIdeal [hKernelIdeal : Cert.KernelIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_in_range_ReferenceIdeal [hReferenceIdeal : Cert.ReferenceIdeal.Facts] [hPre_finite_in_range_ReferenceIdeal : Cert.Pre_finite_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_in_range_KernelIdeal [hKernelIdeal : Cert.KernelIdeal.Facts] [hReferenceIdeal : Cert.ReferenceIdeal.Facts] [hPre_finite_in_range_KernelIdeal : Cert.Pre_finite_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_in_range_KernelIdeal : Cert.Pre_finite_in_range_KernelIdeal.Facts) (hPre_finite_in_range_ReferenceIdeal : Cert.Pre_finite_in_range_ReferenceIdeal.Facts),
    quiescent_Kernel (hKernel := hKernel)
    ∧ quiescent_KernelIdeal (hKernelIdeal := hKernelIdeal)
    ∧ quiescent_KernelIdeal_pre_finite_in_range_KernelIdeal (hKernelIdeal := hKernelIdeal) (hPre_finite_in_range_KernelIdeal := hPre_finite_in_range_KernelIdeal)
    ∧ quiescent_ReferenceIdeal (hReferenceIdeal := hReferenceIdeal)
    ∧ quiescent_ReferenceIdeal_pre_finite_in_range_ReferenceIdeal (hReferenceIdeal := hReferenceIdeal) (hPre_finite_in_range_ReferenceIdeal := hPre_finite_in_range_ReferenceIdeal)
    ∧ preserves_Kernel_KernelIdeal
    ∧ algebraic_KernelIdeal_ReferenceIdeal_pre_finite_in_range_KernelIdeal (hKernelIdeal := hKernelIdeal) (hReferenceIdeal := hReferenceIdeal) (hPre_finite_in_range_KernelIdeal := hPre_finite_in_range_KernelIdeal)
-- ==== Pre_finite_in_range_KernelIdeal.lean ====
abbrev S1024x2048 : Shape := ⟨2, ![1024, 2048]⟩
abbrev S2048x16384 : Shape := ⟨2, ![2048, 16384]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x2048 .f32) (main_arg1 : FVec F S2048x16384 .f32) (main_arg2 : IVec S1024 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_c_2 : IVec S_ 32 := constantI S_ 32 0#32
  let main_v8 : IVec S1024 32 := broadcastInDim S1024 ![] bcast_S_S1024 main_c_2
  let main_v9 : IVec S1024 1 := cmpi .sge main_arg2 main_v8
  let main_c_3 : IVec S_ 32 := constantI S_ 32 32768#32
  let main_v10 : IVec S1024 32 := broadcastInDim S1024 ![] bcast_S_S1024 main_c_3
  let main_v11 : IVec S1024 1 := cmpi .slt main_arg2 main_v10
  let main_v12 : IVec S1024 1 := andi main_v9 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v3 main_v7
  let main_v15 : IVec S_ 1 := andi main_v14 main_v13
  main_v15
-- ==== Pre_finite_in_range_ReferenceIdeal.lean ====
abbrev S1024x2048 : Shape := ⟨2, ![1024, 2048]⟩
abbrev S2048x32768 : Shape := ⟨2, ![2048, 32768]⟩
abbrev S1024 : Shape := ⟨1, ![1024]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x32768 : S_.BroadcastsInDim S2048x32768 (![] : Fin 0 → Fin S2048x32768.rank)
  reducesTo_S2048x32768_S_d0_1 : S2048x32768.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x2048 .f32) (main_arg1 : FVec F S2048x32768 .f32) (main_arg2 : IVec S1024 32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x32768 .f32 := Host.absf main_arg1
  let main_cst_0 : FVec F S_ .f32 := constant S_ .f32 0x7F800000#32
  let main_v5 : FVec F S2048x32768 .f32 := broadcastInDim S2048x32768 ![] bcast_S_S2048x32768 main_cst_0
  let main_v6 : IVec S2048x32768 1 := cmpf .olt main_v4 main_v5
  let main_c_1 : IVec S_ 1 := constantI S_ 1 1#1
  let main_v7 : IVec S_ 1 := (fun x v => Host.reduce IntOp.andi x v reducesTo_S2048x32768_S_d0_1 h_S_) main_v6 main_c_1
  let main_c_2 : IVec S_ 32 := constantI S_ 32 0#32
  let main_v8 : IVec S1024 32 := broadcastInDim S1024 ![] bcast_S_S1024 main_c_2
  let main_v9 : IVec S1024 1 := cmpi .sge main_arg2 main_v8
  let main_c_3 : IVec S_ 32 := constantI S_ 32 32768#32
  let main_v10 : IVec S1024 32 := broadcastInDim S1024 ![] bcast_S_S1024 main_c_3
  let main_v11 : IVec S1024 1 := cmpi .slt main_arg2 main_v10
  let main_v12 : IVec S1024 1 := andi main_v9 main_v11
  let main_c_4 : IVec S_ 1 := constantI S_ 1 1#1
  let main_v13 : IVec S_ 1 := (fun x v => Host.reduce IntOp.andi x v reducesTo_S1024_S_d0 h_S_) main_v12 main_c_4
  let main_v14 : IVec S_ 1 := andi main_v3 main_v7
  let main_v15 : IVec S_ 1 := andi main_v14 main_v13
  main_v15
-- ==== Kernel.lean ====
abbrev S1024x2048 : Shape := ⟨2, ![1024, 2048]⟩
abbrev S2048x16384 : Shape := ⟨2, ![2048, 16384]⟩
abbrev S1024 : Shape := ⟨1, ![1024]⟩
abbrev S_ : Shape := ⟨0, ![]⟩
abbrev S1 : Shape := ⟨1, ![1]⟩
abbrev S2048x2048 : Shape := ⟨2, ![2048, 2048]⟩
abbrev S3x2x1024 : Shape := ⟨3, ![3, 2, 1024]⟩
abbrev S3 : Shape := ⟨1, ![3]⟩
abbrev S1024x1 : Shape := ⟨2, ![1024, 1]⟩
abbrev S1x1x1024 : Shape := ⟨3, ![1, 1, 1024]⟩
abbrev S1x2x1024 : Shape := ⟨3, ![1, 2, 1024]⟩
abbrev S2x1024 : Shape := ⟨2, ![2, 1024]⟩

abbrev nBuf : Space → Nat
  | .hbm => 19
  | .vmem => 10
  | .smem => 1
  | _ => 0

abbrev bufTy : (tb : Table) → Fin (tcTables nBuf tb) → BufTy
  | .hbm, ⟨0, _⟩ => ⟨S1024x2048, .f32⟩
  | .hbm, ⟨1, _⟩ => ⟨S2048x16384, .f32⟩
  | .hbm, ⟨2, _⟩ => ⟨S1024, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1024, .f32⟩
  | .local _ .vmem, ⟨0, _⟩ => ⟨S1024x2048, .f32⟩
  | .local _ .vmem, ⟨1, _⟩ => ⟨S2048x2048, .f32⟩
  | .local _ .vmem, ⟨2, _⟩ => ⟨S2048x2048, .f32⟩
  | .local _ .vmem, ⟨3, _⟩ => ⟨S1024, .i32⟩
  | .local _ .vmem, ⟨4, _⟩ => ⟨S1024, .f32⟩
  | .local _ .vmem, ⟨5, _⟩ => ⟨S1024x2048, .f32⟩
  | .local _ .vmem, ⟨6, _⟩ => ⟨S1024, .f32⟩
  | .local _ .vmem, ⟨7, _⟩ => ⟨S1024, .f32⟩
  | .local _ .vmem, ⟨8, _⟩ => ⟨S3x2x1024, .f32⟩
  | .local _ .vmem, ⟨9, _⟩ => ⟨S3x2x1024, .f32⟩
  | .local _ .smem, ⟨0, _⟩ => ⟨S1, .i32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_c_2 : Ref sig .tc := ⟨.hbm, 11, rfl⟩
abbrev main_c_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v11 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev barrier0 : Sem sig := 0

abbrev nD : Nat := 8
abbrev τ : Topo := Topo.v7x

variable {F : FTy → Type} [FloatOps F]

abbrev grid0 : Pipeline.Grid := ⟨1, ![2], ![false]⟩

abbrev pre0 : Pipeline.Prefetch sig := ⟨1, ![main_v11.idx], fun | 0 => main_v11.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c1_i32_18 : BitVec 32 := 1#32
  let v44 : BitVec 1 := Scalar.cmpi .eq arg0 c1_i32_18
  let v45 : BitVec 32 := Scalar.extui v44
  let c0_i32_19 : BitVec 32 := 0#32
  let v46 : BitVec 1 := Scalar.cmpi .ne v45 c0_i32_19
  v46

def k0_dev1 (d19 : Dev nD) : Nat :=
  let c0_i32_30 : BitVec 32 := 0#32
  let c1_i32_25 : BitVec 32 := 1#32
  let v47 : BitVec 32 := Dev.word d19
  let c4_i32 : BitVec 32 := 4#32
  let v48 : BitVec 32 := Scalar.divsi v47 c4_i32
  let c2_i32_20 : BitVec 32 := 2#32
  let v49 : BitVec 32 := Scalar.remsi v48 c2_i32_20
  let v56 : BitVec 32 := Scalar.subi c1_i32_25 v49
  let c4_i32_29 : BitVec 32 := 4#32
  let v60 : BitVec 32 := Scalar.muli v56 c4_i32_29
  let v61 : BitVec 32 := Scalar.addi c0_i32_30 v60
  let v50 : BitVec 32 := Dev.word d19
  let c2_i32_22 : BitVec 32 := 2#32
  let v51 : BitVec 32 := Scalar.divsi v50 c2_i32_22
  let c2_i32_21 : BitVec 32 := 2#32
  let v52 : BitVec 32 := Scalar.remsi v51 c2_i32_21
  let c2_i32_31 : BitVec 32 := 2#32
  let v62 : BitVec 32 := Scalar.muli v52 c2_i32_31
  let v63 : BitVec 32 := Scalar.addi v61 v62
  let v53 : BitVec 32 := Dev.word d19
  let c1_i32_24 : BitVec 32 := 1#32
  let v54 : BitVec 32 := Scalar.divsi v53 c1_i32_24
  let c2_i32_23 : BitVec 32 := 2#32
  let v55 : BitVec 32 := Scalar.remsi v54 c2_i32_23
  let c1_i32_32 : BitVec 32 := 1#32
  let v64 : BitVec 32 := Scalar.muli v55 c1_i32_32
  let v65 : BitVec 32 := Scalar.addi v63 v64
  v65.toNat
def k0_dev2 (d19 : Dev nD) : Nat :=
  let c0_i32_35 : BitVec 32 := 0#32
  let v47 : BitVec 32 := Dev.word d19
  let c4_i32 : BitVec 32 := 4#32
  let v48 : BitVec 32 := Scalar.divsi v47 c4_i32
  let c2_i32_20 : BitVec 32 := 2#32
  let v49 : BitVec 32 := Scalar.remsi v48 c2_i32_20
  let c4_i32_34 : BitVec 32 := 4#32
  let v66 : BitVec 32 := Scalar.muli v49 c4_i32_34
  let v67 : BitVec 32 := Scalar.addi c0_i32_35 v66
  let c1_i32_26 : BitVec 32 := 1#32
  let v50 : BitVec 32 := Dev.word d19
  let c2_i32_22 : BitVec 32 := 2#32
  let v51 : BitVec 32 := Scalar.divsi v50 c2_i32_22
  let c2_i32_21 : BitVec 32 := 2#32
  let v52 : BitVec 32 := Scalar.remsi v51 c2_i32_21
  let v57 : BitVec 32 := Scalar.subi c1_i32_26 v52
  let c2_i32_36 : BitVec 32 := 2#32
  let v68 : BitVec 32 := Scalar.muli v57 c2_i32_36
  let v69 : BitVec 32 := Scalar.addi v67 v68
  let v53 : BitVec 32 := Dev.word d19
  let c1_i32_24 : BitVec 32 := 1#32
  let v54 : BitVec 32 := Scalar.divsi v53 c1_i32_24
  let c2_i32_23 : BitVec 32 := 2#32
  let v55 : BitVec 32 := Scalar.remsi v54 c2_i32_23
  let c1_i32_37 : BitVec 32 := 1#32
  let v70 : BitVec 32 := Scalar.muli v55 c1_i32_37
  let v71 : BitVec 32 := Scalar.addi v69 v70
  v71.toNat
def k0_dev3 (d19 : Dev nD) : Nat :=
  let c0_i32_40 : BitVec 32 := 0#32
  let v47 : BitVec 32 := Dev.word d19
  let c4_i32 : BitVec 32 := 4#32
  let v48 : BitVec 32 := Scalar.divsi v47 c4_i32
  let c2_i32_20 : BitVec 32 := 2#32
  let v49 : BitVec 32 := Scalar.remsi v48 c2_i32_20
  let c4_i32_39 : BitVec 32 := 4#32
  let v72 : BitVec 32 := Scalar.muli v49 c4_i32_39
  let v73 : BitVec 32 := Scalar.addi c0_i32_40 v72
  let v50 : BitVec 32 := Dev.word d19
  let c2_i32_22 : BitVec 32 := 2#32
  let v51 : BitVec 32 := Scalar.divsi v50 c2_i32_22
  let c2_i32_21 : BitVec 32 := 2#32
  let v52 : BitVec 32 := Scalar.remsi v51 c2_i32_21
  let c2_i32_41 : BitVec 32 := 2#32
  let v74 : BitVec 32 := Scalar.muli v52 c2_i32_41
  let v75 : BitVec 32 := Scalar.addi v73 v74
  let c1_i32_27 : BitVec 32 := 1#32
  let v53 : BitVec 32 := Dev.word d19
  let c1_i32_24 : BitVec 32 := 1#32
  let v54 : BitVec 32 := Scalar.divsi v53 c1_i32_24
  let c2_i32_23 : BitVec 32 := 2#32
  let v55 : BitVec 32 := Scalar.remsi v54 c2_i32_23
  let v58 : BitVec 32 := Scalar.subi c1_i32_27 v55
  let c1_i32_42 : BitVec 32 := 1#32
  let v76 : BitVec 32 := Scalar.muli v58 c1_i32_42
  let v77 : BitVec 32 := Scalar.addi v75 v76
  v77.toNat
def k0_dev4 (d19 : Dev nD) : Nat :=
  let c0_i32_55 : BitVec 32 := 0#32
  let c1_i32_25 : BitVec 32 := 1#32
  let v47 : BitVec 32 := Dev.word d19
  let c4_i32 : BitVec 32 := 4#32
  let v48 : BitVec 32 := Scalar.divsi v47 c4_i32
  let c2_i32_20 : BitVec 32 := 2#32
  let v49 : BitVec 32 := Scalar.remsi v48 c2_i32_20
  let v56 : BitVec 32 := Scalar.subi c1_i32_25 v49
  let c4_i32_54 : BitVec 32 := 4#32
  let v86 : BitVec 32 := Scalar.muli v56 c4_i32_54
  let v87 : BitVec 32 := Scalar.addi c0_i32_55 v86
  let v50 : BitVec 32 := Dev.word d19
  let c2_i32_22 : BitVec 32 := 2#32
  let v51 : BitVec 32 := Scalar.divsi v50 c2_i32_22
  let c2_i32_21 : BitVec 32 := 2#32
  let v52 : BitVec 32 := Scalar.remsi v51 c2_i32_21
  let c2_i32_56 : BitVec 32 := 2#32
  let v88 : BitVec 32 := Scalar.muli v52 c2_i32_56
  let v89 : BitVec 32 := Scalar.addi v87 v88
  let v53 : BitVec 32 := Dev.word d19
  let c1_i32_24 : BitVec 32 := 1#32
  let v54 : BitVec 32 := Scalar.divsi v53 c1_i32_24
  let c2_i32_23 : BitVec 32 := 2#32
  let v55 : BitVec 32 := Scalar.remsi v54 c2_i32_23
  let c1_i32_57 : BitVec 32 := 1#32
  let v90 : BitVec 32 := Scalar.muli v55 c1_i32_57
  let v91 : BitVec 32 := Scalar.addi v89 v90
  v91.toNat
def k0_dev5 (d19 : Dev nD) : Nat :=
  let c0_i32_106 : BitVec 32 := 0#32
  let v47 : BitVec 32 := Dev.word d19
  let c4_i32 : BitVec 32 := 4#32
  let v48 : BitVec 32 := Scalar.divsi v47 c4_i32
  let c2_i32_20 : BitVec 32 := 2#32
  let v49 : BitVec 32 := Scalar.remsi v48 c2_i32_20
  let c4_i32_105 : BitVec 32 := 4#32
  let v140 : BitVec 32 := Scalar.muli v49 c4_i32_105
  let v141 : BitVec 32 := Scalar.addi c0_i32_106 v140
  let c1_i32_26 : BitVec 32 := 1#32
  let v50 : BitVec 32 := Dev.word d19
  let c2_i32_22 : BitVec 32 := 2#32
  let v51 : BitVec 32 := Scalar.divsi v50 c2_i32_22
  let c2_i32_21 : BitVec 32 := 2#32
  let v52 : BitVec 32 := Scalar.remsi v51 c2_i32_21
  let v57 : BitVec 32 := Scalar.subi c1_i32_26 v52
  let c2_i32_107 : BitVec 32 := 2#32
  let v142 : BitVec 32 := Scalar.muli v57 c2_i32_107
  let v143 : BitVec 32 := Scalar.addi v141 v142
  let v53 : BitVec 32 := Dev.word d19
  let c1_i32_24 : BitVec 32 := 1#32
  let v54 : BitVec 32 := Scalar.divsi v53 c1_i32_24
  let c2_i32_23 : BitVec 32 := 2#32
  let v55 : BitVec 32 := Scalar.remsi v54 c2_i32_23
  let c1_i32_108 : BitVec 32 := 1#32
  let v144 : BitVec 32 := Scalar.muli v55 c1_i32_108
  let v145 : BitVec 32 := Scalar.addi v143 v144
  v145.toNat
def k0_dev6 (d19 : Dev nD) : Nat :=
  let c0_i32_156 : BitVec 32 := 0#32
  let v47 : BitVec 32 := Dev.word d19
  let c4_i32 : BitVec 32 := 4#32
  let v48 : BitVec 32 := Scalar.divsi v47 c4_i32
  let c2_i32_20 : BitVec 32 := 2#32
  let v49 : BitVec 32 := Scalar.remsi v48 c2_i32_20
  let c4_i32_155 : BitVec 32 := 4#32
  let v194 : BitVec 32 := Scalar.muli v49 c4_i32_155
  let v195 : BitVec 32 := Scalar.addi c0_i32_156 v194
  let v50 : BitVec 32 := Dev.word d19
  let c2_i32_22 : BitVec 32 := 2#32
  let v51 : BitVec 32 := Scalar.divsi v50 c2_i32_22
  let c2_i32_21 : BitVec 32 := 2#32
  let v52 : BitVec 32 := Scalar.remsi v51 c2_i32_21
  let c2_i32_157 : BitVec 32 := 2#32
  let v196 : BitVec 32 := Scalar.muli v52 c2_i32_157
  let v197 : BitVec 32 := Scalar.addi v195 v196
  let c1_i32_27 : BitVec 32 := 1#32
  let v53 : BitVec 32 := Dev.word d19
  let c1_i32_24 : BitVec 32 := 1#32
  let v54 : BitVec 32 := Scalar.divsi v53 c1_i32_24
  let c2_i32_23 : BitVec 32 := 2#32
  let v55 : BitVec 32 := Scalar.remsi v54 c2_i32_23
  let v58 : BitVec 32 := Scalar.subi c1_i32_27 v55
  let c1_i32_158 : BitVec 32 := 1#32
  let v198 : BitVec 32 := Scalar.muli v58 c1_i32_158
  let v199 : BitVec 32 := Scalar.addi v197 v198
  v199.toNat
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![c0_i32.toNat, v2.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1024x2048 : Shape := ⟨2, ![1024, 2048]⟩
abbrev S2048x32768 : Shape := ⟨2, ![2048, 32768]⟩
abbrev S1024 : Shape := ⟨1, ![1024]⟩
abbrev S1024x32768 : Shape := ⟨2, ![1024, 32768]⟩
abbrev S_ : Shape := ⟨0, ![]⟩
abbrev S1024x1 : Shape := ⟨2, ![1024, 1]⟩
abbrev S1024x2 : Shape := ⟨2, ![1024, 2]⟩

abbrev nBuf : Space → Nat
  | .hbm => 36
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S1024, .i32⟩
  | .hbm, ⟨3, _⟩ => ⟨S1024x32768, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x32768, .f32⟩
  | .hbm, ⟨8, _⟩ => ⟨S1024x32768, .f32⟩
  | .hbm, ⟨9, _⟩ => ⟨S1024x32768, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024, .f32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x1, .i32⟩
  | .hbm, ⟨33, _⟩ => ⟨S1024x2, .i32⟩
  | .hbm, ⟨34, _⟩ => ⟨S1024, .f32⟩
  | .hbm, ⟨35, _⟩ => ⟨S1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Vals.lean ====
/-
The contents the idealized kernel computes, device by device: the vocabulary block each grid point reads, the
partial sums after the two points, and the sums after each of the three exchange steps.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Launch
public import Idealize.ShloMosaic.Lib.Pipeline.Regions
public import Idealize.ShloMosaic.Lib.Pipeline.Kit
public import Idealize.ShloMosaic.Lib.Pipeline.Value
public import Idealize.ShloMosaic.Lib.Rounds.Family
public import Idealize.ShloMosaic.Lib.Tactic

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-! ## The three partners -/

/-- Step `i` exchanges with the device whose coordinate differs along axis `i` of the mesh. -/
def peer (i : Fin 3) (c : Dev nD) : Dev nD := ⟨c.val ^^^ (4 >>> i.val), by revert c i; decide⟩

theorem peer_peer (i : Fin 3) (c : Dev nD) : peer i (peer i c) = c := by revert c i; decide
theorem peer_ne (i : Fin 3) (c : Dev nD) : peer i c ≠ c := by revert c i; decide
theorem peer_inj (i j : Fin 3) (c : Dev nD) (h : peer i c = peer j c) : i = j := by revert c i j; decide

/-- The exchange along axis `i` as a permutation of the devices. -/
def swap (i : Fin 3) : Dev nD ≃ Dev nD := ⟨peer i, peer i, peer_peer i, peer_peer i⟩

theorem dev1_eq (c : Dev nD) (h : k0_dev1 c < nD) : (⟨k0_dev1 c, h⟩ : Dev nD) = peer 0 c :=
  Fin.ext ((k0_dev1_eq c).trans (by revert c; decide))
theorem dev2_eq (c : Dev nD) (h : k0_dev2 c < nD) : (⟨k0_dev2 c, h⟩ : Dev nD) = peer 1 c :=
  Fin.ext ((k0_dev2_eq c).trans (by revert c; decide))
theorem dev3_eq (c : Dev nD) (h : k0_dev3 c < nD) : (⟨k0_dev3 c, h⟩ : Dev nD) = peer 2 c :=
  Fin.ext ((k0_dev3_eq c).trans (by revert c; decide))
theorem dev4_eq (c : Dev nD) (h : k0_dev4 c < nD) : (⟨k0_dev4 c, h⟩ : Dev nD) = peer 0 c :=
  Fin.ext ((k0_dev4_eq c).trans (by revert c; decide))
theorem dev5_eq (c : Dev nD) (h : k0_dev5 c < nD) : (⟨k0_dev5 c, h⟩ : Dev nD) = peer 1 c :=
  Fin.ext ((k0_dev5_eq c).trans (by revert c; decide))
theorem dev6_eq (c : Dev nD) (h : k0_dev6 c < nD) : (⟨k0_dev6 c, h⟩ : Dev nD) = peer 2 c :=
  Fin.ext ((k0_dev6_eq c).trans (by revert c; decide))

/-! ## The prefetched table -/

/-- The table's one word on device `c`: which quarter of its vocabulary shard the device takes. -/
def tab (c : Dev nD) : (main_v11 : Ref sig .tc).ty.Contents (Elt F) := fun _ => BitVec.ofNat 32 (c.val / 2)

def pf (c : Dev nD) : pre0.Contents (Elt F) := fun | 0 => tab c | ⟨_ + 1, h⟩ => absurd h (Nat.not_lt.2 (Nat.le_add_left _ _))

omit [FloatOps F] in
theorem transform1_eq (c : Dev nD) (i : grid0.Coords) :
    cc0_transform_1 inb_S1_S1_0 numel1_S1 (pf (F := F) c) i = ![0, c.val / 2 * 2 + (i 0).val] := by
  have h : cc0_transform_1 inb_S1_S1_0 numel1_S1 (pf (F := F) c) i
      = ![0, (BitVec.ofNat 32 (c.val / 2) * 2#32 + BitVec.ofNat 32 (i 0).val).toNat] := rfl
  rw [h]
  have h2 : ∀ (c : Dev nD) (k : Fin 2), (BitVec.ofNat 32 (c.val / 2) * 2#32 + BitVec.ofNat 32 k.val).toNat = c.val / 2 * 2 + k.val := by decide
  rw [h2 c (i 0)]

omit [FloatOps F] in
theorem ok_pf (c : Dev nD) : ok0 (pf (F := F) c) := fun i => ⟨by
  rw [transform1_eq]
  have h : ∀ (c : Dev nD) (k : Fin 2) (a : Fin 2), ((![0, c.val / 2 * 2 + k.val] : Fin 2 → ℕ) a + 1) * S2048x2048.size a ≤ S2048x16384.size a := by decide
  exact h c (i 0), .inl rfl⟩

/-- The admissible table contents on device `c`. -/
def adm (c : Dev nD) (p : Fin 1) : (pcfgs (F := F) p).Adm := ⟨pf c, ok_pf c⟩

/-- The pipeline on device `c`, its window of the vocabulary placed by the table. -/
abbrev cfgD (c : Dev nD) : Pipeline.Cfg sig Λ₀ := pcfg0.at (adm (F := F) c 0)

/-! ## Contents -/

def xAt (c : Dev nD) : Vec F S1024x2048 .f32 := (((cfgD (F := F) c).win (0 : Fin 4)).blk t0_0).view.read (Elt F) (m ((c : Thread nD τ).loc main_arg0))
def labAt (c : Dev nD) : Vec F S1024 .i32 := (((cfgD (F := F) c).win (2 : Fin 4)).blk t0_0).view.read (Elt F) (m ((c : Thread nD τ).loc main_arg2))

/-- The block of `W` the device reads at grid point `t`. -/
def wAt (c : Dev nD) (t : Fin grid0.N) : Vec F S2048x2048 .f32 :=
  (((cfgD (F := F) c).win (1 : Fin 4)).blk t).view.read (Elt F) (m ((c : Thread nD τ).loc main_arg1))

/-- The logits of the block. -/
def lgAt (c : Dev nD) (t : Fin grid0.N) : Vec F S1024x2048 .f32 := k0_pay17 (xAt m c) (wAt m c t)

/-- The labels less the block's first vocabulary index. -/
def colAt (c : Dev nD) (t : Fin grid0.N) : IVec S1024x1 32 :=
  k0_pay19 (F := F) (grid0.coords t) c (BitVec.ofNat 32 (c.val / 2)) (labAt m c)

def cols : IVec S1024x2048 32 := iota .tc S1024x2048 32 [1] iota_S1024x2048_d1_w32

/-- The sum of exponentials after the first point, and after both. -/
def s1 (c : Dev nD) : Vec F S1024 .f32 := k0_pay18 (lgAt m c t0_0) k0_pay15
def sTot (c : Dev nD) : Vec F S1024 .f32 := k0_pay18 (lgAt m c t0_1) (s1 m c)
/-- The label's logit after the first point, and after both. -/
def l1 (c : Dev nD) : Vec F S1024 .f32 := k0_pay1 (lgAt m c t0_0) cols (colAt m c t0_0) k0_pay16
def lTot (c : Dev nD) : Vec F S1024 .f32 := k0_pay1 (lgAt m c t0_1) cols (colAt m c t0_1) (l1 m c)

/-- One exchange step: every device adds what its partner along axis `i` held. -/
def ex (i : Fin 3) (f : Dev nD → Vec F S1024 .f32) (c : Dev nD) : Vec F S1024 .f32 := k0_pay7 (f c) (k0_pay5 (f (peer i c)))

/-- What device `c` holds at the start of step `i`: the sum of exponentials, and the label's logit. -/
def Sv : Fin 3 → Dev nD → Vec F S1024 .f32 := fun
  | 0 => sTot m
  | 1 => ex 0 (sTot m)
  | 2 => ex 1 (ex 0 (sTot m))
def Lv : Fin 3 → Dev nD → Vec F S1024 .f32 := fun
  | 0 => lTot m
  | 1 => ex 0 (lTot m)
  | 2 => ex 1 (ex 0 (lTot m))
def sFin : Dev nD → Vec F S1024 .f32 := ex 2 (Sv m 2)
def lFin : Dev nD → Vec F S1024 .f32 := ex 2 (Lv m 2)

/-- The device's result. -/
def outAt (c : Dev nD) : Vec F S1024 .f32 := k0_pay4 (sFin m c) (lFin m c)

end Cert.Exch

end
-- ==== Proof.Proto.lean ====
/-
The protocol of the exchange: who signals whom, what each transfer hands over, and what every wait may assume.

On entry to the exchange each device tells its three partners (one along each axis of the mesh) that its landing rows are
free, and waits for the three of them. Step `i` then sends row `i` of the outgoing buffer into row `i` of the partner's
landing buffer, waits for its own transfer to have left and for the partner's to have landed, and adds what landed.
-/
module

public import proofs.«01_k».proof.Proof.Vals
public import Idealize.ShloMosaic.Lib.ViewIndex
public import Idealize.ShloMosaic.Lib.ReshapeSlab

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

variable (m : (ℓ : Loc nD τ sig) → Buf (Elt F) ℓ) (ρ : Dev nD → PrngReg)

/-! ## Rows -/

abbrev cM : Memref sig .tc .vmem S3x2x1024 .f32 := Memref.whole cc0_scratch3
abbrev rM : Memref sig .tc .vmem S3x2x1024 .f32 := Memref.whole cc0_scratch4

theorem row_inb (i : Fin 3) : ∀ a, (![i.val, 0, 0] : Fin 3 → ℕ) a + S1x2x1024.size a ≤ S3x2x1024.size a := by revert i; decide
theorem cell_inb (i : Fin 3) (j : Fin 2) : ∀ a, (![i.val, j.val, 0] : Fin 3 → ℕ) a + S1x1x1024.size a ≤ S3x2x1024.size a := by revert i j; decide

/-- Row `i` of a `3 × 2 × 1024` buffer, and its part `j`. -/
abbrev rowRect (i : Fin 3) : Rect S3x2x1024 := Rect.unit (s := S3x2x1024) ![i.val, 0, 0] S1x2x1024.size (row_inb i)
abbrev partRect (i : Fin 3) (j : Fin 2) : Rect S3x2x1024 := Rect.unit (s := S3x2x1024) ![i.val, j.val, 0] S1x1x1024.size (cell_inb i j)

abbrev rowV (M : Memref sig .tc .vmem S3x2x1024 .f32) (i : Fin 3) : Memref sig .tc .vmem S2x1024 .f32 :=
  (M.slice (rowRect i) (fun _ => rfl)).squeeze S2x1024 squeezes_S1x2x1024_S2x1024

theorem part_sub (i : Fin 3) (j : Fin 2) : (partRect i j).set ⊆ (rowRect i).set := by
  intro y hy
  rw [Rect.mem_set_unit] at hy ⊢
  intro a
  have := hy a
  revert this
  fin_cases a
  · exact fun h => h
  · intro h
    refine ⟨Nat.zero_le _, ?_⟩
    have := (y (1 : Fin 3)).isLt
    exact this
  · exact fun h => h

theorem row_set (M : Memref sig .tc .vmem S3x2x1024 .f32) (i : Fin 3) : (rowV M i).view.set = M.view.setOn (rowRect i).set := by
  show (View.reshape (M.view.slice (rowRect i)) _ _).set = _
  rw [View.set_reshape, View.set_slice]; rfl

theorem load_sub (M : Memref sig .tc .vmem S3x2x1024 .f32) (i : Fin 3) (j : Fin 2) :
    M.view.setOn (partRect i j).toLoadRect.set ⊆ (rowV M i).view.set := by
  rw [row_set]; exact Finset.map_subset_map.mpr (part_sub i j)
theorem store_sub (M : Memref sig .tc .vmem S3x2x1024 .f32) (i : Fin 3) (j : Fin 2) :
    (M.access (partRect i j)).setOn Finset.univ ⊆ (rowV M i).view.set :=
  (Memref.setOn_access_subset_setOn M _ _).trans (load_sub M i j)

/-- The row holds the pair. -/
def HasRow (M : Memref sig .tc .vmem S3x2x1024 .f32) (i : Fin 3) (f : M.view.ty.Contents (Elt F)) (s l : Vec F S1024 .f32) : Prop :=
  M.view.readAt (Elt F) (partRect i 0).toLoadRect f = k0_pay5 s ∧ M.view.readAt (Elt F) (partRect i 1).toLoadRect f = k0_pay5 l

theorem part_disj (i : Fin 3) (x : (partRect i 0).shape.Idx) :
    (partRect i 0).emb x ∉ (Finset.univ : Finset (partRect i 1).shape.Idx).map (partRect i 1).emb := by
  rw [Rect.map_emb_univ]
  intro h
  have h1 := (Rect.mem_set_unit.mp h (1 : Fin 3)).1
  have h0 : (partRect i 0).emb x ∈ (partRect i 0).set := by rw [← Rect.map_emb_univ]; exact Finset.mem_map_of_mem _ (Finset.mem_univ x)
  have h2 := (Rect.mem_set_unit.mp h0 (1 : Fin 3)).2
  exact absurd (Nat.lt_of_le_of_lt h1 h2) (Nat.lt_irrefl _)

/-- Storing the two parts fills the row. -/
theorem hasRow_store (M : Memref sig .tc .vmem S3x2x1024 .f32) (i : Fin 3) (f : M.view.ty.Contents (Elt F)) (s l : Vec F S1024 .f32) :
    HasRow M i ((M.access (partRect i 1)).write (Elt F) ((M.access (partRect i 0)).write (Elt F) f (k0_pay5 s) Finset.univ) (k0_pay5 l) Finset.univ) s l := by
  constructor
  · funext x
    show M.view.read (Elt F) ((M.view.slice (partRect i 1)).write (Elt F) _ (k0_pay5 l) Finset.univ) ((partRect i 0).emb x) = _
    rw [View.read_slice_write_of_not_mem _ _ _ _ (part_disj i x)]
    exact View.read_slice_write_emb _ _ _ (Finset.mem_univ x)
  · funext x
    exact View.read_slice_write_emb _ _ _ (Finset.mem_univ x)

omit [FloatOps F] in
theorem read_landed (i : Fin 3) (fs : cM.view.ty.Contents (Elt F)) (fd : rM.view.ty.Contents (Elt F)) (y : S3x2x1024.Idx) (hy : y ∈ (rowRect i).set) :
    rM.view.read (Elt F) ((rowV rM i).view.write (Elt F) fd ((rowV cM i).view.read (Elt F) fs) Finset.univ) y = cM.view.read (Elt F) fs y := by
  rw [← Rect.map_emb_univ] at hy
  obtain ⟨x, -, rfl⟩ := Finset.mem_map.mp hy
  obtain ⟨z, rfl⟩ := (Shape.reshapeEquiv squeezes_S1x2x1024_S2x1024.numel_eq).surjective x
  exact View.read_write_reshape (rM.view.slice (rowRect i)) squeezes_S1x2x1024_S2x1024.numel_eq fd _ z

/-- A transfer of the row carries the pair over. -/
theorem hasRow_landed (i : Fin 3) (fs : cM.view.ty.Contents (Elt F)) (fd : rM.view.ty.Contents (Elt F)) (s l : Vec F S1024 .f32) (h : HasRow cM i fs s l) :
    HasRow rM i ((rowV rM i).view.write (Elt F) fd ((rowV cM i).view.read (Elt F) fs) Finset.univ) s l := by
  have key : ∀ (j : Fin 2), rM.view.readAt (Elt F) (partRect i j).toLoadRect ((rowV rM i).view.write (Elt F) fd ((rowV cM i).view.read (Elt F) fs) Finset.univ)
      = cM.view.readAt (Elt F) (partRect i j).toLoadRect fs := fun j => funext fun x =>
    read_landed i fs fd _ (part_sub i j (by rw [← Rect.map_emb_univ]; exact Finset.mem_map_of_mem _ (Finset.mem_univ x)))
  exact ⟨(key 0).trans h.1, (key 1).trans h.2⟩

/-! ## Cells -/

abbrev barS : Sem sig := (SemArray.scalar (sig.barrier 0 rfl) : Sems sig S_).sem
def sendS : Fin 3 → DmaSem sig := fun | 0 => 5 | 1 => 6 | 2 => 7
def recvS : Fin 3 → DmaSem sig := fun | 0 => 8 | 1 => 9 | 2 => 10

theorem sem_inb (i : Fin 3) : ∀ a, (![i.val] : Fin 1 → ℕ) a + S1.size a ≤ S3.size a := by revert i; decide
theorem sendS_eq (i : Fin 3) : ((cc0_scratch5.slice (Rect.unit (s := S3) ![i.val] S1.size (sem_inb i))).squeeze S_ squeezes_S1_S_).sem = sendS i := by
  revert i; decide
theorem recvS_eq (i : Fin 3) : ((cc0_scratch6.slice (Rect.unit (s := S3) ![i.val] S1.size (sem_inb i))).squeeze S_ squeezes_S1_S_).sem = recvS i := by
  revert i; decide

abbrev barCell (c : Dev nD) : GSem nD τ sig := ((c : Thread nD τ), .reg barS)
abbrev sendCell (c : Dev nD) (i : Fin 3) : GSem nD τ sig := ((c : Thread nD τ), .dma (sendS i))
abbrev recvCell (c : Dev nD) (i : Fin 3) : GSem nD τ sig := ((c : Thread nD τ), .dma (recvS i))

def N : ℕ := (rowV rM 0).view.dmaCredit
theorem N_pos : 0 < N := View.dmaCredit_pos _ (by decide)
theorem N_row (i : Fin 3) : (rowV rM i).view.dmaCredit = N := rfl

/-! ## What the transfers and signals hand over -/

def cPts (c : Dev nD) (i : Fin 3) (f : Buf (Elt F) ((rowV cM i).view.loc (c : Thread nD τ))) : sProp 𝕄 :=
  (rowV cM i).view.loc (c : Thread nD τ) ↦[(rowV cM i).view.set]{fullShare} f
def rPts (c : Dev nD) (i : Fin 3) (f : Buf (Elt F) ((rowV rM i).view.loc (c : Thread nD τ))) : sProp 𝕄 :=
  (rowV rM i).view.loc (c : Thread nD τ) ↦[(rowV rM i).view.set]{fullShare} f

omit [FloatOps F] in
instance cPts_storable (c : Dev nD) (i : Fin 3) (f) : BI.Storable (upEmb : UEmb _ 𝕄) (cPts (F := F) c i f) := by unfold cPts; infer_instance
omit [FloatOps F] in
instance rPts_storable (c : Dev nD) (i : Fin 3) (f) : BI.Storable (upEmb : UEmb _ 𝕄) (rPts (F := F) c i f) := by unfold rPts; infer_instance

/-- The signal of device `c`'s partner along axis `i`: that partner's landing row `i`, and that its receive cell stands ready. -/
def readyPay (c : Dev nD) (i : Fin 3) : sProp 𝕄 := iprop((∃ f, rPts (peer i c) i f) ∗ reached ER (recvCell (peer i c) i) 0)
/-- The outgoing row back. -/
def sendPay (c : Dev nD) (i : Fin 3) : sProp 𝕄 := iprop(∃ f, cPts c i f)
/-- The landing row holding what the partner held at the start of step `i`. -/
def recvPay (c : Dev nD) (i : Fin 3) : sProp 𝕄 := iprop(∃ f, ⌜HasRow rM i f (Sv m i (peer i c)) (Lv m i (peer i c))⌝ ∗ rPts c i f)

omit [FloatOps F] in
instance readyPay_storable (c : Dev nD) (i : Fin 3) : BI.Storable (upEmb : UEmb _ 𝕄) (readyPay (F := F) c i) := by unfold readyPay; infer_instance
omit [FloatOps F] in
instance sendPay_storable (c : Dev nD) (i : Fin 3) : BI.Storable (upEmb : UEmb _ 𝕄) (sendPay (F := F) c i) := by unfold sendPay; infer_instance
instance recvPay_storable (c : Dev nD) (i : Fin 3) : BI.Storable (upEmb : UEmb _ 𝕄) (recvPay m c i) := by unfold recvPay; infer_instance

/-- Which duty a semaphore carries: `0` the barrier, `1 + i` the send of step `i`, `4 + i` its receive, `7` none. -/
def kind : SemLoc sig → Fin 8 := fun sm =>
  if sm = .reg barS then 0 else if sm = .dma (sendS 0) then 1 else if sm = .dma (sendS 1) then 2 else if sm = .dma (sendS 2) then 3
  else if sm = .dma (recvS 0) then 4 else if sm = .dma (recvS 1) then 5 else if sm = .dma (recvS 2) then 6 else 7

def duties' : Fin 8 → Finset (Fin 3) := fun | 0 => Finset.univ | 7 => ∅ | _ => {0}
def amount' : Fin 8 → ℕ := fun | 0 => 1 | _ => N
def payload' (c : Dev nD) : Fin 8 → Fin 3 → sProp 𝕄 := fun
  | 0 => fun d => readyPay c d
  | 1 => fun _ => sendPay c 0
  | 2 => fun _ => sendPay c 1
  | 3 => fun _ => sendPay c 2
  | 4 => fun _ => recvPay m c 0
  | 5 => fun _ => recvPay m c 1
  | 6 => fun _ => recvPay m c 2
  | _ => fun _ => iprop(emp)
def level' : Fin 8 → ℕ := fun | 0 => 1 | 4 => 2 | 5 => 3 | 6 => 4 | _ => 0

theorem kind_bar : kind (.reg barS) = 0 := by decide
theorem kind_send (i : Fin 3) : kind (.dma (sendS i)) = ⟨1 + i.val, by omega⟩ := by revert i; decide
theorem kind_recv (i : Fin 3) : kind (.dma (recvS i)) = ⟨4 + i.val, by omega⟩ := by revert i; decide

/-- The schedule: one round, three units on each barrier cell, one transfer on each other. -/
def sched : Rounds.Schedule (GSem nD τ sig) (Fin 3) 𝕄 where
  duties g r := if r = 0 ∧ g.1.2 = .tc then duties' (kind g.2) else ∅
  unitless _ := False
  amount g _ _ := amount' (kind g.2)
  payload g _ d := payload' m g.1.1 (kind g.2) d
  amount_pos g _ _ _ := by
    show 0 < amount' (kind g.2)
    generalize kind g.2 = k
    fin_cases k <;> first | exact Nat.one_pos | exact N_pos

instance sched_storable (g : GSem nD τ sig) (r : ℕ) (d : Fin 3) : BI.Storable (upEmb : UEmb _ 𝕄) ((sched m).payload g r d) := by
  show BI.Storable upEmb (payload' m g.1.1 (kind g.2) d)
  generalize kind g.2 = k
  unfold payload'
  split <;> infer_instance

section Sched
variable (c : Dev nD) (i : Fin 3)

theorem duties_bar : (sched m).duties (barCell c) 0 = Finset.univ := by
  dsimp only [sched]
  rw [if_pos ⟨rfl, rfl⟩, kind_bar]; rfl
theorem duties_send : (sched m).duties (sendCell c i) 0 = {0} := by
  dsimp only [sched]
  rw [if_pos ⟨rfl, rfl⟩, kind_send]; fin_cases i <;> rfl
theorem duties_recv : (sched m).duties (recvCell c i) 0 = {0} := by
  dsimp only [sched]
  rw [if_pos ⟨rfl, rfl⟩, kind_recv]; fin_cases i <;> rfl
theorem duties_later (g : GSem nD τ sig) : ∀ r, 1 ≤ r → (sched m).duties g r = ∅ := fun r hr => if_neg fun h => by omega

theorem amount_bar (d : Fin 3) : (sched m).amount (barCell c) 0 d = 1 := by
  show amount' (kind (.reg barS)) = 1
  rw [kind_bar]; rfl
theorem amount_send (d : Fin 3) : (sched m).amount (sendCell c i) 0 d = N := by
  show amount' (kind (.dma (sendS i))) = N
  rw [kind_send]; fin_cases i <;> rfl
theorem amount_recv (d : Fin 3) : (sched m).amount (recvCell c i) 0 d = N := by
  show amount' (kind (.dma (recvS i))) = N
  rw [kind_recv]; fin_cases i <;> rfl

theorem expect_bar : (sched m).expect (barCell c) 0 = 3 := by
  unfold Schedule.expect Schedule.amountOf
  rw [duties_bar, Finset.sum_congr rfl fun d _ => amount_bar m c d]; rfl
theorem expect_send : (sched m).expect (sendCell c i) 0 = N := by
  unfold Schedule.expect Schedule.amountOf; rw [duties_send, Finset.sum_singleton, amount_send]
theorem expect_recv : (sched m).expect (recvCell c i) 0 = N := by
  unfold Schedule.expect Schedule.amountOf; rw [duties_recv, Finset.sum_singleton, amount_recv]

theorem payload_bar (d : Fin 3) : (sched m).payload (barCell c) 0 d = readyPay c d := by
  show payload' m c (kind (.reg barS)) d = _
  rw [kind_bar]; rfl
theorem payload_send (d : Fin 3) : (sched m).payload (sendCell c i) 0 d = sendPay c i := by
  show payload' m c (kind (.dma (sendS i))) d = _
  rw [kind_send]; fin_cases i <;> rfl
theorem payload_recv (d : Fin 3) : (sched m).payload (recvCell c i) 0 d = recvPay m c i := by
  show payload' m c (kind (.dma (recvS i))) d = _
  rw [kind_recv]; fin_cases i <;> rfl

omit [FloatOps F] in
theorem bigSep_three (Φ : Fin 3 → sProp 𝕄) : bigSep Finset.univ Φ = iprop(Φ 0 ∗ Φ 1 ∗ Φ 2) := bigSep_univ_eq_bigSepL [0, 1, 2] (by decide) (by decide) Φ

theorem rest_bar : bigSep ((sched m).duties (barCell c) 0 \ ∅) (fun d => (sched m).payload (barCell c) 0 d)
    = iprop(readyPay c 0 ∗ readyPay c 1 ∗ readyPay c 2) := by
  rw [Finset.sdiff_empty, duties_bar, bigSep_congr fun d _ => payload_bar m c d, bigSep_three]
theorem rest_send : bigSep ((sched m).duties (sendCell c i) 0 \ ∅) (fun d => (sched m).payload (sendCell c i) 0 d) = sendPay c i := by
  rw [Finset.sdiff_empty, duties_send, bigSep_singleton, payload_send]
theorem rest_recv : bigSep ((sched m).duties (recvCell c i) 0 \ ∅) (fun d => (sched m).payload (recvCell c i) 0 d) = recvPay m c i := by
  rw [Finset.sdiff_empty, duties_recv, bigSep_singleton, payload_recv]

end Sched

/-! ## What each core owes; the order of the waits -/

abbrev owR (i : Fin 3) (c : Dev nD) : CellTallies nD τ sig Unit := tallyAt (recvCell (peer i c) i) () N
abbrev owB (i : Fin 3) (c : Dev nD) : CellTallies nD τ sig Unit := tallyAt (barCell (peer i c)) () 1

/-- What is owed once the signals are out. -/
def O₁ (c : Dev nD) : CellTallies nD τ sig Unit := owR 2 c + owR 1 c + owR 0 c
/-- What is owed at launch. -/
def O₀ (c : Dev nD) : CellTallies nD τ sig Unit := O₁ c + owB 2 c + owB 1 c + owB 0 c

def L (g : GSem nD τ sig) : Finset Unit := if g.1.2 = .tc then {()} else ∅
def lv (g : GSem nD τ sig) (_ : Unit) : ℕ := level' (kind g.2)
theorem L_of_ne (g : GSem nD τ sig) (h : g.1.2 ≠ .tc) : L g = ∅ := if_neg h
theorem L_tc (c : Dev nD) (sm : SemLoc sig) : L ((c : Thread nD τ), sm) = {()} := if_pos rfl

/-- Everything owed is owed to a device's tensor core, at a level above `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_tally (n : ℕ) (c : Dev nD) (sm : SemLoc sig) (k : ℕ) (h : n < level' (kind sm)) : Above n (tallyAt ((c : Thread nD τ), sm) () k) := fun g u hg => by
  rw [tallyAt_apply] at hg
  by_cases hh : g = ((c : Thread nD τ), sm) ∧ u = ()
  · rw [hh.1]; exact ⟨rfl, h⟩
  · rw [if_neg hh] at hg; exact absurd hg (Nat.lt_irrefl 0)
theorem above_add {n : ℕ} {O O' : CellTallies nD τ sig Unit} (h : Above n O) (h' : Above n O') : Above n (O + O') := fun g u hg => by
  rw [Pi.add_apply, Finsupp.add_apply] at hg
  by_cases h0 : 0 < O g u
  · exact h g u h0
  · exact h' g u (by omega)
theorem above_owR (n : ℕ) (i : Fin 3) (c : Dev nD) (h : n < 2 + i.val) : Above n (owR i c) :=
  above_tally n _ _ _ (by rw [kind_recv]; revert h; fin_cases i <;> exact fun h => h)
theorem above_owB (i : Fin 3) (c : Dev nD) : Above 0 (owB i c) := above_tally 0 _ _ _ (by rw [kind_bar]; decide)
theorem above_O₁ (c : Dev nD) : Above 1 (O₁ c) :=
  above_add (above_add (above_owR 1 2 c (by decide)) (above_owR 1 1 c (by decide))) (above_owR 1 0 c (by decide))
theorem above_O₀ (c : Dev nD) : Above 0 (O₀ c) :=
  above_add (above_add (above_add (fun g u h => ⟨(above_O₁ c g u h).1, Nat.lt_of_succ_lt (above_O₁ c g u h).2⟩) (above_owB 2 c)) (above_owB 1 c)) (above_owB 0 c)

omit [FloatOps F] in
/-- A core may wait at a level below everything it owes. -/
theorem mayWait_of (c : Dev nD) (sm : SemLoc sig) (O : CellTallies nD τ sig Unit) (h : Above (level' (kind sm)) O) :
    (levAts L lv : sProp 𝕄) ⊢ MayWait (c : Thread nD τ) sm () O :=
  MayOwe.of_cut (L := L) (lev := lv) (level' (kind sm)) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

end Cert.Exch

end
-- ==== Proof.Walk.lean ====
/-
The kernel's loads and stores, one lemma for each buffer: what a whole-buffer load returns and a store leaves, and the same
for the parts of the outgoing and landing rows.
-/
module

public import proofs.«01_k».proof.Proof.Proto

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`'s core, inside the region. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem hz1 : (![0] : Fin 1 → Nat) = fun _ => 0 := funext fun a => by fin_cases a; rfl
theorem hz2 : (![0, 0] : Fin 2 → Nat) = fun _ => 0 := funext fun a => by fin_cases a <;> rfl

abbrev rectV : Rect S1024 := Rect.unit (s := S1024) ![0] S1024.size inb_S1024_S1024_0
abbrev rectX : Rect S1024x2048 := Rect.unit (s := S1024x2048) ![0, 0] S1024x2048.size inb_S1024x2048_S1024x2048_0_0
abbrev rectW : Rect S2048x2048 := Rect.unit (s := S2048x2048) ![0, 0] S2048x2048.size inb_S2048x2048_S2048x2048_0_0

section Walk
variable {α : Type} (c : Dev nD)

theorem ld_x {Q : α → sProp 𝕄} {hl : (Memref.whole cc0_stg0_0 : Memref sig .tc .vmem S1024x2048 .f32).view.LoadsAt rectX.toLoadRect} {k : Vec F S1024x2048 .f32 → Prog (TpuEff nD τ sig (Elt F) Λ₀ .tc) α} (f : Buf (Elt F) ((c : Thread nD τ).loc cc0_stg0_0)) :
    (((c : Thread nD τ).loc cc0_stg0_0) ↦{fullShare} f : sProp 𝕄)
      ⊢ iprop(((((c : Thread nD τ).loc cc0_stg0_0) ↦{fullShare} f) -∗ WP c (k f) Q) -∗ WP c (.op (.load (Memref.whole cc0_stg0_0 : Memref sig .tc .vmem S1024x2048 .f32) rectX.toLoadRect hl) k) Q) := by
  have h := wp_load (defs := defs₀ (F := F)) (Γ := []) (Q := Q) (k := k) (hl := hl) (q := fullShare) (f := f) 𝒱₀ (c : Thread nD τ) none Set.univ (m := (Memref.whole cc0_stg0_0 : Memref sig .tc .vmem S1024x2048 .f32)) (Finset.subset_univ _)
  rw [show (Memref.whole cc0_stg0_0 : Memref sig .tc .vmem S1024x2048 .f32).view.readAt (Elt F) rectX.toLoadRect f = f from Memref.readAt_unit_zero (Elt F) cc0_stg0_0 hz2 _ f] at h
  exact h
theorem ld_w0 {Q : α → sProp 𝕄} {hl : (Memref.whole cc0_stg1_0 : Memref sig .tc .vmem S2048x2048 .f32).view.LoadsAt rectW.toLoadRect} {k : Vec F S2048x2048 .f32 → Prog (TpuEff nD τ sig (Elt F) Λ₀ .tc) α} (f : Buf (Elt F) ((c : Thread nD τ).loc cc0_stg1_0)) :
    (((c : Thread nD τ).loc cc0_stg1_0) ↦{fullShare} f : sProp 𝕄)
      ⊢ iprop(((((c : Thread nD τ).loc cc0_stg1_0) ↦{fullShare} f) -∗ WP c (k f) Q) -∗ WP c (.op (.load (Memref.whole cc0_stg1_0 : Memref sig .tc .vmem S2048x2048 .f32) rectW.toLoadRect hl) k) Q) := by
  have h := wp_load (defs := defs₀ (F := F)) (Γ := []) (Q := Q) (k := k) (hl := hl) (q := fullShare) (f := f) 𝒱₀ (c : Thread nD τ) none Set.univ (m := (Memref.whole cc0_stg1_0 : Memref sig .tc .vmem S2048x2048 .f32)) (Finset.subset_univ _)
  rw [show (Memref.whole cc0_stg1_0 : Memref sig .tc .vmem S2048x2048 .f32).view.readAt (Elt F) rectW.toLoadRect f = f from Memref.readAt_unit_zero (Elt F) cc0_stg1_0 hz2 _ f] at h
  exact h
theorem ld_w1 {Q : α → sProp 𝕄} {hl : (Memref.whole cc0_stg1_1 : Memref sig .tc .vmem S2048x2048 .f32).view.LoadsAt rectW.toLoadRect} {k : Vec F S2048x2048 .f32 → Prog (TpuEff nD τ sig (Elt F) Λ₀ .tc) α} (f : Buf (Elt F) ((c : Thread nD τ).loc cc0_stg1_1)) :
    (((c : Thread nD τ).loc cc0_stg1_1) ↦{fullShare} f : sProp 𝕄)
      ⊢ iprop(((((c : Thread nD τ).loc cc0_stg1_1) ↦{fullShare} f) -∗ WP c (k f) Q) -∗ WP c (.op (.load (Memref.whole cc0_stg1_1 : Memref sig .tc .vmem S2048x2048 .f32) rectW.toLoadRect hl) k) Q) := by
  have h := wp_load (defs := defs₀ (F := F)) (Γ := []) (Q := Q) (k := k) (hl := hl) (q := fullShare) (f := f) 𝒱₀ (c : Thread nD τ) none Set.univ (m := (Memref.whole cc0_stg1_1 : Memref sig .tc .vmem S2048x2048 .f32)) (Finset.subset_univ _)
  rw [show (Memref.whole cc0_stg1_1 : Memref sig .tc .vmem S2048x2048 .f32).view.readAt (Elt F) rectW.toLoadRect f = f from Memref.readAt_unit_zero (Elt F) cc0_stg1_1 hz2 _ f] at h
  exact h
theorem ld_lab {Q : α → sProp 𝕄} {hl : (Memref.whole cc0_stg2_0 : Memref sig .tc .vmem S1024 .i32).view.LoadsAt rectV.toLoadRect} {k : Vec F S1024 .i32 → Prog (TpuEff nD τ sig (Elt F) Λ₀ .tc) α} (f : Buf (Elt F) ((c : Thread nD τ).loc cc0_stg2_0)) :
    (((c : Thread nD τ).loc cc0_stg2_0) ↦{fullShare} f : sProp 𝕄)
      ⊢ iprop(((((c : Thread nD τ).loc cc0_stg2_0) ↦{fullShare} f) -∗ WP c (k f) Q) -∗ WP c (.op (.load (Memref.whole cc0_stg2_0 : Memref sig .tc .vmem S1024 .i32) rectV.toLoadRect hl) k) Q) := by
  have h := wp_load (defs := defs₀ (F := F)) (Γ := []) (Q := Q) (k := k) (hl := hl) (q := fullShare) (f := f) 𝒱₀ (c : Thread nD τ) none Set.univ (m := (Memref.whole cc0_stg2_0 : Memref sig .tc .vmem S1024 .i32)) (Finset.subset_univ _)
  rw [show (Memref.whole cc0_stg2_0 : Memref sig .tc .vmem S1024 .i32).view.readAt (Elt F) rectV.toLoadRect f = f from Memref.readAt_unit_zero (Elt F) cc0_stg2_0 hz1 _ f] at h
  exact h
theorem ld_out {Q : α → sProp 𝕄} {hl : (Memref.whole cc0_stg3_0 : Memref sig .tc .vmem S1024 .f32).view.LoadsAt rectV.toLoadRect} {k : Vec F S1024 .f32 → Prog (TpuEff nD τ sig (Elt F) Λ₀ .tc) α} (f : Buf (Elt F) ((c : Thread nD τ).loc cc0_stg3_0)) :
    (((c : Thread nD τ).loc cc0_stg3_0) ↦{fullShare} f : sProp 𝕄)
      ⊢ iprop(((((c : Thread nD τ).loc cc0_stg3_0) ↦{fullShare} f) -∗ WP c (k f) Q) -∗ WP c (.op (.load (Memref.whole cc0_stg3_0 : Memref sig .tc .vmem S1024 .f32) rectV.toLoadRect hl) k) Q) := by
  have h := wp_load (defs := defs₀ (F := F)) (Γ := []) (Q := Q) (k := k) (hl := hl) (q := fullShare) (f := f) 𝒱₀ (c : Thread nD τ) none Set.univ (m := (Memref.whole cc0_stg3_0 : Memref sig .tc .vmem S1024 .f32)) (Finset.subset_univ _)
  rw [show (Memref.whole cc0_stg3_0 : Memref sig .tc .vmem S1024 .f32).view.readAt (Elt F) rectV.toLoadRect f = f from Memref.readAt_unit_zero (Elt F) cc0_stg3_0 hz1 _ f] at h
  exact h
theorem st_out {Q : α → sProp 𝕄} {w : Vec F S1024 .f32} {hx : ((Memref.whole cc0_stg3_0 : Memref sig .tc .vmem S1024 .f32).access rectV).Stores Finset.univ} {hm : (Finset.univ : Finset rectV.shape.Idx) = Finset.univ ∨ ∀ a, rectV.stride a = 1}
    {k : PUnit → Prog (TpuEff nD τ sig (Elt F) Λ₀ .tc) α} (f : Buf (Elt F) ((c : Thread nD τ).loc cc0_stg3_0)) :
    (((c : Thread nD τ).loc cc0_stg3_0) ↦{fullShare} f : sProp 𝕄)
      ⊢ iprop(((((c : Thread nD τ).loc cc0_stg3_0) ↦{fullShare} (w : Buf (Elt F) ((c : Thread nD τ).loc cc0_stg3_0))) -∗ WP c (k ⟨⟩) Q) -∗ WP c (.op (.store (Memref.whole cc0_stg3_0 : Memref sig .tc .vmem S1024 .f32) rectV w Finset.univ hx hm) k) Q) := by
  have h := wp_store (defs := defs₀ (F := F)) (Γ := []) (Q := Q) (k := k) (hx := hx) (hm := hm) (w := w) (f := f) 𝒱₀ (c : Thread nD τ) none Set.univ (m := (Memref.whole cc0_stg3_0 : Memref sig .tc .vmem S1024 .f32)) (r := rectV) (Mk := Finset.univ) (Finset.subset_univ _)
  rw [show ((Memref.whole cc0_stg3_0 : Memref sig .tc .vmem S1024 .f32).access rectV).write (Elt F) f w Finset.univ = w from Memref.write_access_unit_zero_univ (Elt F) cc0_stg3_0 hz1 _ f w] at h
  exact h
theorem ld_lg {Q : α → sProp 𝕄} {hl : (Memref.whole cc0_scratch0 : Memref sig .tc .vmem S1024x2048 .f32).view.LoadsAt rectX.toLoadRect} {k : Vec F S1024x2048 .f32 → Prog (TpuEff nD τ sig (Elt F) Λ₀ .tc) α} (f : Buf (Elt F) ((c : Thread nD τ).loc cc0_scratch0)) :
    (((c : Thread nD τ).loc cc0_scratch0) ↦{fullShare} f : sProp 𝕄)
      ⊢ iprop(((((c : Thread nD τ).loc cc0_scratch0) ↦{fullShare} f) -∗ WP c (k f) Q) -∗ WP c (.op (.load (Memref.whole cc0_scratch0 : Memref sig .tc .vmem S1024x2048 .f32) rectX.toLoadRect hl) k) Q) := by
  have h := wp_load (defs := defs₀ (F := F)) (Γ := []) (Q := Q) (k := k) (hl := hl) (q := fullShare) (f := f) 𝒱₀ (c : Thread nD τ) none Set.univ (m := (Memref.whole cc0_scratch0 : Memref sig .tc .vmem S1024x2048 .f32)) (Finset.subset_univ _)
  rw [show (Memref.whole cc0_scratch0 : Memref sig .tc .vmem S1024x2048 .f32).view.readAt (Elt F) rectX.toLoadRect f = f from Memref.readAt_unit_zero (Elt F) cc0_scratch0 hz2 _ f] at h
  exact h
theorem st_lg {Q : α → sProp 𝕄} {w : Vec F S1024x2048 .f32} {hx : ((Memref.whole cc0_scratch0 : Memref sig .tc .vmem S1024x2048 .f32).access rectX).Stores Finset.univ} {hm : (Finset.univ : Finset rectX.shape.Idx) = Finset.univ ∨ ∀ a, rectX.stride a = 1}
    {k : PUnit → Prog (TpuEff nD τ sig (Elt F) Λ₀ .tc) α} (f : Buf (Elt F) ((c : Thread nD τ).loc cc0_scratch0)) :
    (((c : Thread nD τ).loc cc0_scratch0) ↦{fullShare} f : sProp 𝕄)
      ⊢ iprop(((((c : Thread nD τ).loc cc0_scratch0) ↦{fullShare} (w : Buf (Elt F) ((c : Thread nD τ).loc cc0_scratch0))) -∗ WP c (k ⟨⟩) Q) -∗ WP c (.op (.store (Memref.whole cc0_scratch0 : Memref sig .tc .vmem S1024x2048 .f32) rectX w Finset.univ hx hm) k) Q) := by
  have h := wp_store (defs := defs₀ (F := F)) (Γ := []) (Q := Q) (k := k) (hx := hx) (hm := hm) (w := w) (f := f) 𝒱₀ (c : Thread nD τ) none Set.univ (m := (Memref.whole cc0_scratch0 : Memref sig .tc .vmem S1024x2048 .f32)) (r := rectX) (Mk := Finset.univ) (Finset.subset_univ _)
  rw [show ((Memref.whole cc0_scratch0 : Memref sig .tc .vmem S1024x2048 .f32).access rectX).write (Elt F) f w Finset.univ = w from Memref.write_access_unit_zero_univ (Elt F) cc0_scratch0 hz2 _ f w] at h
  exact h
theorem ld_s {Q : α → sProp 𝕄} {hl : (Memref.whole cc0_scratch1 : Memref sig .tc .vmem S1024 .f32).view.LoadsAt rectV.toLoadRect} {k : Vec F S1024 .f32 → Prog (TpuEff nD τ sig (Elt F) Λ₀ .tc) α} (f : Buf (Elt F) ((c : Thread nD τ).loc cc0_scratch1)) :
    (((c : Thread nD τ).loc cc0_scratch1) ↦{fullShare} f : sProp 𝕄)
      ⊢ iprop(((((c : Thread nD τ).loc cc0_scratch1) ↦{fullShare} f) -∗ WP c (k f) Q) -∗ WP c (.op (.load (Memref.whole cc0_scratch1 : Memref sig .tc .vmem S1024 .f32) rectV.toLoadRect hl) k) Q) := by
  have h := wp_load (defs := defs₀ (F := F)) (Γ := []) (Q := Q) (k := k) (hl := hl) (q := fullShare) (f := f) 𝒱₀ (c : Thread nD τ) none Set.univ (m := (Memref.whole cc0_scratch1 : Memref sig .tc .vmem S1024 .f32)) (Finset.subset_univ _)
  rw [show (Memref.whole cc0_scratch1 : Memref sig .tc .vmem S1024 .f32).view.readAt (Elt F) rectV.toLoadRect f = f from Memref.readAt_unit_zero (Elt F) cc0_scratch1 hz1 _ f] at h
  exact h
theorem st_s {Q : α → sProp 𝕄} {w : Vec F S1024 .f32} {hx : ((Memref.whole cc0_scratch1 : Memref sig .tc .vmem S1024 .f32).access rectV).Stores Finset.univ} {hm : (Finset.univ : Finset rectV.shape.Idx) = Finset.univ ∨ ∀ a, rectV.stride a = 1}
    {k : PUnit → Prog (TpuEff nD τ sig (Elt F) Λ₀ .tc) α} (f : Buf (Elt F) ((c : Thread nD τ).loc cc0_scratch1)) :
    (((c : Thread nD τ).loc cc0_scratch1) ↦{fullShare} f : sProp 𝕄)
      ⊢ iprop(((((c : Thread nD τ).loc cc0_scratch1) ↦{fullShare} (w : Buf (Elt F) ((c : Thread nD τ).loc cc0_scratch1))) -∗ WP c (k ⟨⟩) Q) -∗ WP c (.op (.store (Memref.whole cc0_scratch1 : Memref sig .tc .vmem S1024 .f32) rectV w Finset.univ hx hm) k) Q) := by
  have h := wp_store (defs := defs₀ (F := F)) (Γ := []) (Q := Q) (k := k) (hx := hx) (hm := hm) (w := w) (f := f) 𝒱₀ (c : Thread nD τ) none Set.univ (m := (Memref.whole cc0_scratch1 : Memref sig .tc .vmem S1024 .f32)) (r := rectV) (Mk := Finset.univ) (Finset.subset_univ _)
  rw [show ((Memref.whole cc0_scratch1 : Memref sig .tc .vmem S1024 .f32).access rectV).write (Elt F) f w Finset.univ = w from Memref.write_access_unit_zero_univ (Elt F) cc0_scratch1 hz1 _ f w] at h
  exact h
theorem ld_l {Q : α → sProp 𝕄} {hl : (Memref.whole cc0_scratch2 : Memref sig .tc .vmem S1024 .f32).view.LoadsAt rectV.toLoadRect} {k : Vec F S1024 .f32 → Prog (TpuEff nD τ sig (Elt F) Λ₀ .tc) α} (f : Buf (Elt F) ((c : Thread nD τ).loc cc0_scratch2)) :
    (((c : Thread nD τ).loc cc0_scratch2) ↦{fullShare} f : sProp 𝕄)
      ⊢ iprop(((((c : Thread nD τ).loc cc0_scratch2) ↦{fullShare} f) -∗ WP c (k f) Q) -∗ WP c (.op (.load (Memref.whole cc0_scratch2 : Memref sig .tc .vmem S1024 .f32) rectV.toLoadRect hl) k) Q) := by
  have h := wp_load (defs := defs₀ (F := F)) (Γ := []) (Q := Q) (k := k) (hl := hl) (q := fullShare) (f := f) 𝒱₀ (c : Thread nD τ) none Set.univ (m := (Memref.whole cc0_scratch2 : Memref sig .tc .vmem S1024 .f32)) (Finset.subset_univ _)
  rw [show (Memref.whole cc0_scratch2 : Memref sig .tc .vmem S1024 .f32).view.readAt (Elt F) rectV.toLoadRect f = f from Memref.readAt_unit_zero (Elt F) cc0_scratch2 hz1 _ f] at h
  exact h
theorem st_l {Q : α → sProp 𝕄} {w : Vec F S1024 .f32} {hx : ((Memref.whole cc0_scratch2 : Memref sig .tc .vmem S1024 .f32).access rectV).Stores Finset.univ} {hm : (Finset.univ : Finset rectV.shape.Idx) = Finset.univ ∨ ∀ a, rectV.stride a = 1}
    {k : PUnit → Prog (TpuEff nD τ sig (Elt F) Λ₀ .tc) α} (f : Buf (Elt F) ((c : Thread nD τ).loc cc0_scratch2)) :
    (((c : Thread nD τ).loc cc0_scratch2) ↦{fullShare} f : sProp 𝕄)
      ⊢ iprop(((((c : Thread nD τ).loc cc0_scratch2) ↦{fullShare} (w : Buf (Elt F) ((c : Thread nD τ).loc cc0_scratch2))) -∗ WP c (k ⟨⟩) Q) -∗ WP c (.op (.store (Memref.whole cc0_scratch2 : Memref sig .tc .vmem S1024 .f32) rectV w Finset.univ hx hm) k) Q) := by
  have h := wp_store (defs := defs₀ (F := F)) (Γ := []) (Q := Q) (k := k) (hx := hx) (hm := hm) (w := w) (f := f) 𝒱₀ (c : Thread nD τ) none Set.univ (m := (Memref.whole cc0_scratch2 : Memref sig .tc .vmem S1024 .f32)) (r := rectV) (Mk := Finset.univ) (Finset.subset_univ _)
  rw [show ((Memref.whole cc0_scratch2 : Memref sig .tc .vmem S1024 .f32).access rectV).write (Elt F) f w Finset.univ = w from Memref.write_access_unit_zero_univ (Elt F) cc0_scratch2 hz1 _ f w] at h
  exact h

/-- The table's word, read on device `c`. -/
theorem ld_tab {Q : α → sProp 𝕄} {k : ((Rect.unit (s := S1) ![0] S1.size inb_S1_S1_0).shape.Idx → Elt F .i32) → Prog (TpuEff nD τ sig (Elt F) Λ₀ .tc) α}
    {hl : (Memref.whole main_v11 : Memref sig .tc .smem S1 .i32).view.LoadsAt (Rect.unit (s := S1) ![0] S1.size inb_S1_S1_0).toLoadRect} :
    (((c : Thread nD τ).loc main_v11) ↦{fullShare} (tab (F := F) c : Buf (Elt F) ((c : Thread nD τ).loc main_v11)) : sProp 𝕄)
      ⊢ iprop(((((c : Thread nD τ).loc main_v11) ↦{fullShare} (tab (F := F) c : Buf (Elt F) ((c : Thread nD τ).loc main_v11))) -∗ WP c (k fun _ => BitVec.ofNat 32 (c.val / 2)) Q)
        -∗ WP c (.op (.load (Memref.whole main_v11 : Memref sig .tc .smem S1 .i32) (Rect.unit (s := S1) ![0] S1.size inb_S1_S1_0).toLoadRect hl) k) Q) :=
  wp_load (defs := defs₀ (F := F)) (Γ := []) (Q := Q) (k := k) (hl := hl) (q := fullShare) (f := tab (F := F) c) 𝒱₀ (c : Thread nD τ) none Set.univ (Finset.subset_univ _)

/-- The core's own device. -/
theorem dev_id {Q : α → sProp 𝕄} {k : Dev nD → Prog (TpuEff nD τ sig (Elt F) Λ₀ .tc) α} :
    WP c (k c) Q ⊢ WP c (.op .deviceId k) Q :=
  Entails.of_eq (wp_deviceId (defs := defs₀ (F := F)) (Γ := []) (Q := Q) (k := k) 𝒱₀ (c : Thread nD τ) none Set.univ).symm

/-- The end of a program. -/
theorem wp_done {Q : α → sProp 𝕄} {x : α} : (|={Set.univ}=> Q x : sProp 𝕄) ⊢ WP c (.ret x : Prog (TpuEff nD τ sig (Elt F) Λ₀ .tc) α) Q :=
  Entails.of_eq (wp_ret _ _ _ _ _).symm

/-- A load of part `j` of the outgoing row `i`. -/
theorem ld_c {Q : α → sProp 𝕄} (i : Fin 3) (j : Fin 2) {hl : cM.view.LoadsAt (partRect i j).toLoadRect} {k : Vec F S1x1x1024 .f32 → Prog (TpuEff nD τ sig (Elt F) Λ₀ .tc) α} (f) :
    (cPts c i f : sProp 𝕄) ⊢ iprop((cPts c i f -∗ WP c (k (cM.view.readAt (Elt F) (partRect i j).toLoadRect f)) Q) -∗ WP c (.op (.load cM (partRect i j).toLoadRect hl) k) Q) := by
  unfold cPts
  exact wp_load (defs := defs₀ (F := F)) (Γ := []) (Q := Q) (k := k) (hl := hl) (q := fullShare) (f := f) 𝒱₀ (c : Thread nD τ) none Set.univ (m := cM) (load_sub cM i j)
/-- A load of part `j` of the landing row `i`. -/
theorem ld_r {Q : α → sProp 𝕄} (i : Fin 3) (j : Fin 2) {hl : rM.view.LoadsAt (partRect i j).toLoadRect} {k : Vec F S1x1x1024 .f32 → Prog (TpuEff nD τ sig (Elt F) Λ₀ .tc) α} (f) (v : Vec F S1x1x1024 .f32)
    (hv : rM.view.readAt (Elt F) (partRect i j).toLoadRect f = v) :
    (rPts c i f : sProp 𝕄) ⊢ iprop((rPts c i f -∗ WP c (k v) Q) -∗ WP c (.op (.load rM (partRect i j).toLoadRect hl) k) Q) := by
  subst hv
  unfold rPts
  exact wp_load (defs := defs₀ (F := F)) (Γ := []) (Q := Q) (k := k) (hl := hl) (q := fullShare) (f := f) 𝒱₀ (c : Thread nD τ) none Set.univ (m := rM) (load_sub rM i j)
/-- A store of part `j` of the outgoing row `i`. -/
theorem st_c {Q : α → sProp 𝕄} (i : Fin 3) (j : Fin 2) {w : Vec F S1x1x1024 .f32} {hx : (cM.access (partRect i j)).Stores Finset.univ}
    {hm : (Finset.univ : Finset (partRect i j).shape.Idx) = Finset.univ ∨ ∀ a, (partRect i j).stride a = 1} {k : PUnit → Prog (TpuEff nD τ sig (Elt F) Λ₀ .tc) α} (f) :
    (cPts c i f : sProp 𝕄) ⊢ iprop((cPts c i ((cM.access (partRect i j)).write (Elt F) f w Finset.univ) -∗ WP c (k ⟨⟩) Q)
      -∗ WP c (.op (.store cM (partRect i j) w Finset.univ hx hm) k) Q) := by
  unfold cPts
  exact wp_store (defs := defs₀ (F := F)) (Γ := []) (Q := Q) (k := k) (hx := hx) (hm := hm) (w := w) (f := f) 𝒱₀ (c : Thread nD τ) none Set.univ (m := cM) (r := partRect i j) (Mk := Finset.univ) (store_sub cM i j)

end Walk

end Cert.Exch

end
-- ==== Proof.Steps.lean ====
/-
The steps of the exchange at one device: the signal to a partner, the wait for the three partners, the transfer of a row, the
wait for it to have left, the wait for the partner's to have landed, and the closing of the cells at the end.
-/
module

public import proofs.«01_k».proof.Proof.Walk

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

/-- The cells of the region's own semaphores. -/
def osem : Fin 6 → SemLoc sig := fun
  | 0 => .dma (sendS 0) | 1 => .dma (sendS 1) | 2 => .dma (sendS 2) | 3 => .dma (recvS 0) | 4 => .dma (recvS 1) | 5 => .dma (recvS 2)

theorem barCell_inj : Function.Injective (barCell : Dev nD → GSem nD τ sig) := fun a b h =>
  Fin.ext (congrArg (fun g : GSem nD τ sig => g.1.1.val) h)
def dmaCell (ck : Dev nD × Fin 6) : GSem nD τ sig := ((ck.1 : Thread nD τ), osem ck.2)
theorem osem_inj : Function.Injective osem := by intro a b; revert a b; decide
theorem dmaCell_inj : Function.Injective dmaCell := by
  rintro ⟨c, k⟩ ⟨c', k'⟩ h
  have h1 : c = c' := Fin.ext (congrArg (fun g : GSem nD τ sig => g.1.1.val) h)
  have h2 : k = k' := osem_inj (congrArg Prod.snd h)
  rw [h1, h2]

def barCells : Finset (GSem nD τ sig) := Finset.univ.map ⟨barCell, barCell_inj⟩
def dmaCells : Finset (GSem nD τ sig) := Finset.univ.map ⟨dmaCell, dmaCell_inj⟩

theorem mem_bar (c : Dev nD) : barCell c ∈ barCells ∪ dmaCells :=
  Finset.mem_union_left _ (Finset.mem_map_of_mem ⟨barCell, barCell_inj⟩ (Finset.mem_univ c))
theorem mem_dma (c : Dev nD) (k : Fin 6) : dmaCell (c, k) ∈ barCells ∪ dmaCells :=
  Finset.mem_union_right _ (Finset.mem_map_of_mem ⟨dmaCell, dmaCell_inj⟩ (Finset.mem_univ (c, k)))
theorem mem_send (c : Dev nD) (i : Fin 3) : sendCell c i ∈ barCells ∪ dmaCells := by
  fin_cases i
  · exact mem_dma c 0
  · exact mem_dma c 1
  · exact mem_dma c 2
theorem mem_recv (c : Dev nD) (i : Fin 3) : recvCell c i ∈ barCells ∪ dmaCells := by
  fin_cases i
  · exact mem_dma c 3
  · exact mem_dma c 4
  · exact mem_dma c 5

/-- Every cell's invariant. -/
def records (κ : GSem nD τ sig → ℕ) : sProp 𝕄 := bigSep (barCells ∪ dmaCells) fun g => cellInv ER (sched m) (κ g) g
instance records_persistent (κ : GSem nD τ sig → ℕ) : BI.Persistent (records m κ) := by unfold records; infer_instance
theorem inv_of (κ : GSem nD τ sig → ℕ) (g : GSem nD τ sig) (h : g ∈ barCells ∪ dmaCells) : records m κ ⊢ cellInv ER (sched m) (κ g) g := bigSep_elim h

/-! ## The steps -/

section Steps
variable {α : Type} (c : Dev nD) (κ : GSem nD τ sig → ℕ)

/-- The signal to the partner along axis `i`, handing over landing row `i`. -/
theorem wp_sig {Q : α → sProp 𝕄} (i : Fin 3) (n : Dev nD) (hn : n = peer i c) (O : CellTallies nD τ sig Unit) (W : Waits sig Unit)
    {k : PUnit → Prog (TpuEff nD τ sig (Elt F) Λ₀ .tc) α} :
    iprop(records m κ ∗ owes (c : Thread nD τ) (O + owB i c) W ∗ dutyTok ER (barCell (peer i c)) 0 i ∗ (∃ f, rPts c i f)
        ∗ reached ER (recvCell c i) 0 ∗ reached ER (barCell (peer i c)) 0)
      ⊢ iprop((owes (c : Thread nD τ) O W -∗ WP c (k ⟨⟩) Q) -∗ WP c (.op (.semSignal (n : Thread nD τ) barS (1#32).toInt) k) Q) := by
  subst hn
  have h := Rounds.wp_signal (defs := defs₀ (F := F)) (Γ := []) (Q := Q) (k := k) 𝒱₀ ER (sched m) (c : Thread nD τ) none (dst := (peer i c : Thread nD τ))
    (sem := barS) (r := 0) (d := i) (k' := 1) (κ := κ (barCell (peer i c)))
    (by rw [duties_bar]; exact Finset.mem_univ i) (amount_bar m (peer i c) i) () (W := W) (Es := Set.univ) O rfl
  rw [payload_bar] at h
  unfold readyPay at h
  rw [peer_peer] at h
  iintro ⟨#HI, HO, Ht, Hr, #H1, #H2⟩ Hk
  iapply h $$ [HO Ht Hr]
  · isplitr; · iapply (inv_of m κ _ (mem_bar (peer i c))); iexact HI
    isplitl [HO]; · iexact HO
    isplitl [Ht]; · iexact Ht
    isplitl [Hr]
    · isplitl [Hr]; · iexact Hr
      iexact H1
    iexact H2
  iexact Hk

/-- The wait for the three partners: their landing rows come with it. -/
theorem wp_bar {Q : α → sProp 𝕄} (O : CellTallies nD τ sig Unit) (hO : Above 1 O) (W : Waits sig Unit) {k : PUnit → Prog (TpuEff nD τ sig (Elt F) Λ₀ .tc) α} :
    iprop(records m κ ∗ levAts L lv ∗ cred (tallyAt (barCell c) () 3) ∗ owes (c : Thread nD τ) O W ∗ atPos ER (barCell c) 0 ∅ 0)
      ⊢ iprop(((owes (c : Thread nD τ) O (insert (.reg barS, ()) W) ∗ atPos ER (barCell c) 1 ∅ 0 ∗ readyPay c 0 ∗ readyPay c 1 ∗ readyPay c 2) -∗ WP c (k ⟨⟩) Q)
          -∗ WP c (.op (.semWait barS (3#32).toInt) k) Q) := by
  have h := Rounds.wp_wait_rest_token (defs := defs₀ (F := F)) (Γ := []) (Q := Q) (k := k) 𝒱₀ ER (sched m) (c : Thread nD τ) none (κ := κ (barCell c))
      (wpE_semWait_eq (k := 3) (sem := barS) 𝒱₀ (c : Thread nD τ) none Set.univ) (Set.mem_univ _) () (O := O) (W := W) (R := 0) (m := 0) (T := ∅)
      (by rw [expect_bar])
  rw [rest_bar] at h
  iintro ⟨#HI, #Hl, Hc, HO, Ha⟩ Hk
  iapply h $$ [Hc HO Ha]
  · isplitr; · iapply (inv_of m κ _ (mem_bar c)); iexact HI
    isplitl [Hc]; · iexact Hc
    isplitl [HO]; · iexact HO
    isplitr; · iapply (mayWait_of c _ O (by rw [kind_bar]; exact hO)); iexact Hl
    iexact Ha
  iintro ⟨HO, Ha, -, Hp⟩
  iapply Hk
  isplitl [HO]; · iexact HO
  isplitl [Ha]; · iexact Ha
  iexact Hp

/-- The transfer of outgoing row `i` into the partner's landing row. -/
theorem wp_xfer {Q : α → sProp 𝕄} (i : Fin 3) (n : Dev nD) (hn : n = peer i c) (O : CellTallies nD τ sig Unit) (W : Waits sig Unit)
    (sS sR : DmaSem sig) (hS : sS = sendS i) (hR : sR = recvS i)
    {hsc : (rowV rM i : Memref sig (Dev.tc n : Thread nD τ).2.kind .vmem S2x1024 .f32).view.ref.isScScratch = false}
    {hsrc : (rowV cM i).view.WordExact} {hdst : (rowV rM i).view.WordExact}
    {hsem : DmaTarget.Typed .vmem (.dma sR) (.remote (Dev.tc n : Thread nD τ) (rowV rM i : Memref sig (Dev.tc n : Thread nD τ).2.kind .vmem S2x1024 .f32) (.dma sS) hsc)}
    {k : PUnit → Prog (TpuEff nD τ sig (Elt F) Λ₀ .tc) α} (fs) (hfs : HasRow cM i fs (Sv m i c) (Lv m i c)) :
    iprop(records m κ ∗ cPts c i fs ∗ (∃ f, rPts (peer i c) i f) ∗ owes (c : Thread nD τ) (O + owR i c) W
        ∗ dutyTok ER (sendCell c i) 0 0 ∗ reached ER (sendCell c i) 0 ∗ dutyTok ER (recvCell (peer i c) i) 0 0 ∗ reached ER (recvCell (peer i c) i) 0)
      ⊢ iprop(((cred (tallyAt (sendCell c i) () N) ∗ owes (c : Thread nD τ) O W) -∗ WP c (k ⟨⟩) Q)
          -∗ WP c (.op (.enqueueDma (rowV cM i) (.remote (Dev.tc n : Thread nD τ) (rowV rM i) (.dma sS) hsc) (.dma sR) hsrc hdst hsem) k) Q) := by
  subst hn hS hR
  iintro ⟨#HI, Hc, ⟨%fd, Hr⟩, HO, Ht1, #H1, Ht2, #H2⟩
  iapply (Rounds.wp_send_pointsTo (defs := defs₀ (F := F)) (Γ := []) (Q := Q) (k := k) 𝒱₀ ER (sched m) (c : Thread nD τ) none (c' := (peer i c : Thread nD τ))
    (src := rowV cM i) (dst := rowV rM i) (sS := .dma (sendS i)) (sem := .dma (recvS i)) (q := fullShare)
    (κ₁ := κ (sendCell c i)) (κ₂ := κ (recvCell (peer i c) i))
    (r₁ := 0) (r₂ := 0) (d₁ := 0) (d₂ := 0) (fs := fs) (fd := fd)
    (by rw [duties_send]; exact Finset.mem_singleton_self _) (by rw [duties_recv]; exact Finset.mem_singleton_self _)
    () () N rfl (amount_send m c i 0) (amount_recv m (peer i c) i 0) O rfl (W := W)
    (by rw [payload_send]; unfold sendPay cPts; iintro H; iexists fs; iexact H)
    (by
      rw [payload_recv]; unfold recvPay rPts; rw [peer_peer]
      iintro H; iexists _; isplitr
      · ipureintro; exact hasRow_landed i fs fd _ _ hfs
      iexact H)) $$ [Hc Hr HO Ht1 Ht2]
  isplitr; · iapply (inv_of m κ _ (mem_send c i)); iexact HI
  isplitr; · iapply (inv_of m κ _ (mem_recv (peer i c) i)); iexact HI
  isplitl [Hc]; · unfold cPts; iexact Hc
  isplitl [Hr]; · unfold rPts; iexact Hr
  isplitl [HO]; · iexact HO
  isplitl [Ht1]; · iexact Ht1
  isplitr; · iexact H1
  isplitl [Ht2]; · iexact Ht2
  iexact H2

/-- The wait for the device's own transfer to have left: the outgoing row comes back. -/
theorem wp_left {Q : α → sProp 𝕄} (i : Fin 3) (O : CellTallies nD τ sig Unit) (hO : Above 0 O) (W : Waits sig Unit) (sS : DmaSem sig) (hS : sS = sendS i)
    {src : Memref sig .tc .vmem S2x1024 .f32} {dst : Memref sig .tc .vmem S2x1024 .f32} (hN : dst.view.dmaCredit = N) {hsrc : src.view.WordExact} {hdst : dst.view.WordExact}
    {k : PUnit → Prog (TpuEff nD τ sig (Elt F) Λ₀ .tc) α} :
    iprop(records m κ ∗ levAts L lv ∗ cred (tallyAt (sendCell c i) () N) ∗ owes (c : Thread nD τ) O W ∗ atPos ER (sendCell c i) 0 ∅ 0)
      ⊢ iprop(((owes (c : Thread nD τ) O (insert (.dma (sendS i), ()) W) ∗ atPos ER (sendCell c i) 1 ∅ 0 ∗ ∃ f, cPts c i f) -∗ WP c (k ⟨⟩) Q)
          -∗ WP c (.op (.waitDma2 sS src dst hsrc hdst) k) Q) := by
  subst hS
  have h := Rounds.wp_wait_rest_token (defs := defs₀ (F := F)) (Γ := []) (Q := Q) (k := k) 𝒱₀ ER (sched m) (c : Thread nD τ) none (κ := κ (sendCell c i))
      (wpE_waitDma2_eq (sem := sendS i) (src := src) (dst := dst) (hsrc := hsrc) (hdst := hdst) 𝒱₀ (c : Thread nD τ) none Set.univ) (Set.mem_univ _) () (O := O) (W := W) (R := 0) (m := 0) (T := ∅)
      (by rw [Nat.zero_add, expect_send, hN])
  rw [rest_send, hN] at h
  iintro ⟨#HI, #Hl, Hc, HO, Ha⟩ Hk
  iapply h $$ [Hc HO Ha]
  · isplitr; · iapply (inv_of m κ _ (mem_send c i)); iexact HI
    isplitl [Hc]; · iexact Hc
    isplitl [HO]; · iexact HO
    isplitr; · iapply (mayWait_of c _ O (by rw [kind_send]; revert hO; fin_cases i <;> exact fun h => h)); iexact Hl
    iexact Ha
  iintro ⟨HO, Ha, -, Hp⟩
  iapply Hk
  isplitl [HO]; · iexact HO
  isplitl [Ha]; · iexact Ha
  unfold sendPay; iexact Hp

/-- The wait for the partner's transfer to have landed. -/
theorem wp_land {Q : α → sProp 𝕄} (i : Fin 3) (O : CellTallies nD τ sig Unit) (hO : Above (2 + i.val) O) (W : Waits sig Unit) (sR : DmaSem sig) (hR : sR = recvS i)
    {src : Memref sig .tc .vmem S2x1024 .f32} {dst : Memref sig .tc .vmem S2x1024 .f32} (hN : dst.view.dmaCredit = N) {hsrc : src.view.WordExact} {hdst : dst.view.WordExact}
    {k : PUnit → Prog (TpuEff nD τ sig (Elt F) Λ₀ .tc) α} :
    iprop(records m κ ∗ levAts L lv ∗ cred (tallyAt (recvCell c i) () N) ∗ owes (c : Thread nD τ) O W ∗ atPos ER (recvCell c i) 0 ∅ 0)
      ⊢ iprop(((owes (c : Thread nD τ) O (insert (.dma (recvS i), ()) W) ∗ atPos ER (recvCell c i) 1 ∅ 0 ∗ recvPay m c i) -∗ WP c (k ⟨⟩) Q)
          -∗ WP c (.op (.waitDma2 sR src dst hsrc hdst) k) Q) := by
  subst hR
  have h := Rounds.wp_wait_rest_token (defs := defs₀ (F := F)) (Γ := []) (Q := Q) (k := k) 𝒱₀ ER (sched m) (c : Thread nD τ) none (κ := κ (recvCell c i))
      (wpE_waitDma2_eq (sem := recvS i) (src := src) (dst := dst) (hsrc := hsrc) (hdst := hdst) 𝒱₀ (c : Thread nD τ) none Set.univ) (Set.mem_univ _) () (O := O) (W := W) (R := 0) (m := 0) (T := ∅)
      (by rw [Nat.zero_add, expect_recv, hN])
  rw [rest_recv, hN] at h
  iintro ⟨#HI, #Hl, Hc, HO, Ha⟩ Hk
  iapply h $$ [Hc HO Ha]
  · isplitr; · iapply (inv_of m κ _ (mem_recv c i)); iexact HI
    isplitl [Hc]; · iexact Hc
    isplitl [HO]; · iexact HO
    isplitr; · iapply (mayWait_of c _ O (by rw [kind_recv]; revert hO; fin_cases i <;> exact fun h => h)); iexact Hl
    iexact Ha
  iintro ⟨HO, Ha, -, Hp⟩
  iapply Hk
  isplitl [HO]; · iexact HO
  isplitl [Ha]; · iexact Ha
  iexact Hp

/-- A cell past its round stands at zero for good. -/
theorem close_cell (g : GSem nD τ sig) (h : g ∈ barCells ∪ dmaCells) :
    iprop(records m κ ∗ atPos ER g 1 ∅ 0) ⊢ (|={Set.univ}=> semVal g 0 : sProp 𝕄) := by
  iintro ⟨#HI, Ha⟩
  iapply (Rounds.cell_close ER (sched m) (Set.mem_univ (κ g)) (fun h => h) (R := 1) (duties_later m g))
  isplitr; · iapply (inv_of m κ g h); iexact HI
  iexact Ha

end Steps

end Cert.Exch

end
-- ==== Proof.Point.lean ====
/-
The kernel's body at the first grid point, and the proof data of the pipeline: what every staging buffer and scratch buffer
holds before and after each point.
-/
module

public import proofs.«01_k».proof.Proof.Steps

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## What the body holds -/

/-- Device `c`'s duties and credits of step `i`. -/
def stepG (c : Dev nD) (i : Fin 3) : sProp 𝕄 :=
  iprop(atPos ER (sendCell c i) 0 ∅ 0 ∗ reached ER (sendCell c i) 0 ∗ atPos ER (recvCell c i) 0 ∅ 0 ∗ reached ER (recvCell c i) 0
    ∗ dutyTok ER (sendCell c i) 0 0 ∗ dutyTok ER (recvCell (peer i c) i) 0 0 ∗ cred (tallyAt (recvCell c i) () N)
    ∗ dutyTok ER (barCell (peer i c)) 0 i ∗ reached ER (barCell (peer i c)) 0)

def ghost (κ : GSem nD τ sig → ℕ) (c : Dev nD) : sProp 𝕄 :=
  iprop(records m κ ∗ levAts L lv ∗ atPos ER (barCell c) 0 ∅ 0 ∗ cred (tallyAt (barCell c) () 3) ∗ stepG c 0 ∗ stepG c 1 ∗ stepG c 2)

def tabPts (c : Dev nD) : sProp 𝕄 := ((c : Thread nD τ).loc main_v11) ↦{fullShare} (tab (F := F) c : Buf (Elt F) ((c : Thread nD τ).loc main_v11))
def rows (c : Dev nD) : sProp 𝕄 :=
  iprop((∃ f, cPts c 0 f) ∗ (∃ f, cPts c 1 f) ∗ (∃ f, cPts c 2 f) ∗ (∃ f, rPts c 0 f) ∗ (∃ f, rPts c 1 f) ∗ (∃ f, rPts c 2 f))
def lgAny (c : Dev nD) : sProp 𝕄 := iprop(∃ f : Buf (Elt F) ((c : Thread nD τ).loc cc0_scratch0), (((c : Thread nD τ).loc cc0_scratch0) ↦{fullShare} f))
def sAny (c : Dev nD) : sProp 𝕄 := iprop(∃ f : Buf (Elt F) ((c : Thread nD τ).loc cc0_scratch1), (((c : Thread nD τ).loc cc0_scratch1) ↦{fullShare} f))
def lAny (c : Dev nD) : sProp 𝕄 := iprop(∃ f : Buf (Elt F) ((c : Thread nD τ).loc cc0_scratch2), (((c : Thread nD τ).loc cc0_scratch2) ↦{fullShare} f))
def sHas (c : Dev nD) (v : Vec F S1024 .f32) : sProp 𝕄 := ((c : Thread nD τ).loc cc0_scratch1) ↦{fullShare} (v : Buf (Elt F) ((c : Thread nD τ).loc cc0_scratch1))
def lHas (c : Dev nD) (v : Vec F S1024 .f32) : sProp 𝕄 := ((c : Thread nD τ).loc cc0_scratch2) ↦{fullShare} (v : Buf (Elt F) ((c : Thread nD τ).loc cc0_scratch2))

def Φ₀ (c : Dev nD) : sProp 𝕄 := iprop((∃ κ, ghost m κ c) ∗ tabPts c ∗ lgAny c ∗ sAny c ∗ lAny c ∗ rows c)
def Φ₁ (c : Dev nD) : sProp 𝕄 := iprop((∃ κ, ghost m κ c) ∗ tabPts c ∗ lgAny c ∗ sHas c (s1 m c) ∗ lHas c (l1 m c) ∗ rows c)
def Φ₂ (c : Dev nD) : sProp 𝕄 :=
  iprop(tabPts c ∗ lgAny c ∗ sAny c ∗ lAny c ∗ rows c ∗ semVal (barCell c) 0
    ∗ semVal (sendCell c 0) 0 ∗ semVal (sendCell c 1) 0 ∗ semVal (sendCell c 2) 0
    ∗ semVal (recvCell c 0) 0 ∗ semVal (recvCell c 1) 0 ∗ semVal (recvCell c 2) 0)

/-! ## The pipeline's proof data -/

def dats (c : Dev nD) : Dat τ (Elt F) Unit ℕ UU ℕ (cfgD (F := F) c) c where
  A w := m (((cfgD (F := F) c).win w).arr.view.loc (c : Thread nD τ))
  after w t := match w with
    | ⟨0, _⟩ => xAt m c
    | ⟨1, _⟩ => wAt m c t
    | ⟨2, _⟩ => labAt m c
    | ⟨3, _⟩ => outAt m c
  Φ t := match t with
    | ⟨0, _⟩ => Φ₀ m c
    | ⟨1, _⟩ => Φ₁ m c
    | ⟨_ + 2, _⟩ => Φ₂ c
  q _ := fullShare
  owed t := match t with
    | ⟨0, _⟩ => O₀ c
    | ⟨1, _⟩ => O₀ c
    | ⟨_ + 2, _⟩ => 0

theorem fetch_1 (c : Dev nD) (t : Fin grid0.N) : ((cfgD (F := F) c).win (1 : Fin 4)).fetch t = true := by
  rw [Pipeline.Window.fetch_eq_fetchOf]
  unfold Pipeline.Window.fetchOf
  rcases fin_N0 t with rfl | rfl
  · rfl
  · have h : ∃ h : 0 < (t0_1 : Fin grid0.N).val, cc0_transform_1 inb_S1_S1_0 numel1_S1 (pf (F := F) c) (grid0.coords t0_1)
        ≠ cc0_transform_1 inb_S1_S1_0 numel1_S1 (pf (F := F) c) (grid0.coords ⟨(t0_1 : Fin grid0.N).val - 1, by decide⟩) := by
      refine ⟨by decide, ?_⟩
      rw [transform1_eq, transform1_eq]
      intro h
      have := congrFun h (1 : Fin 2)
      revert this c
      decide
    have h2 := decide_eq_true h
    rw [Bool.and_eq_true, Bool.or_eq_true]
    exact ⟨rfl, .inr h2⟩
theorem fetch_0 (c : Dev nD) : ((cfgD (F := F) c).win (0 : Fin 4)).fetch t0_0 = true := rfl
theorem fetch_2 (c : Dev nD) : ((cfgD (F := F) c).win (2 : Fin 4)).fetch t0_0 = true := rfl
theorem nofetch_0 (c : Dev nD) : ((cfgD (F := F) c).win (0 : Fin 4)).fetch t0_1 = false := by rfl
theorem nofetch_2 (c : Dev nD) : ((cfgD (F := F) c).win (2 : Fin 4)).fetch t0_1 = false := by rfl

theorem before_x0 (c : Dev nD) (d) : (dats m c).before (0 : Fin 4) t0_0 d = xAt m c := by unfold Dat.before; rw [if_pos (fetch_0 c)]; rfl
theorem before_lab0 (c : Dev nD) (d) : (dats m c).before (2 : Fin 4) t0_0 d = labAt m c := by unfold Dat.before; rw [if_pos (fetch_2 c)]; rfl
theorem before_w (c : Dev nD) (t : Fin grid0.N) (d) : (dats m c).before (1 : Fin 4) t d = wAt m c t := by unfold Dat.before; rw [if_pos (fetch_1 c t)]; rfl
theorem before_x1 (c : Dev nD) (d) : (dats m c).before (0 : Fin 4) t0_1 d = xAt m c := by
  rw [Dat.before_of_pos _ _ _ (show (1 : ℕ) ≠ 0 from by decide) (nofetch_0 c)]; rfl
theorem before_lab1 (c : Dev nD) (d) : (dats m c).before (2 : Fin 4) t0_1 d = labAt m c := by
  rw [Dat.before_of_pos _ _ _ (show (1 : ℕ) ≠ 0 from by decide) (nofetch_2 c)]; rfl

/-! ## The body at a point, the weight's staging buffer left open -/

abbrev pts (c : Dev nD) (b : Ref sig .tc) (f : Buf (Elt F) ((c : Thread nD τ).loc b)) : sProp 𝕄 := ((c : Thread nD τ).loc b) ↦{fullShare} f

/-- The body at point `t`, the weight's block in `wM`. -/
abbrev bodyAt (t : Fin grid0.N) (wM : Memref sig .tc .vmem S2048x2048 .f32) (hw : wM.IsWhole) : Prog (TpuEff nD τ sig (Elt F) Λ₀ .tc) PUnit :=
  cc0_body (grid0.coords t) (Memref.whole main_v11) (Memref.isWhole_whole _) (Memref.whole cc0_stg0_0) (Memref.isWhole_whole _) wM hw
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6

/-- What a load of the weight's staging buffer does: it returns `v` and leaves the buffer as it is. -/
def WLoad (c : Dev nD) (wM : Memref sig .tc .vmem S2048x2048 .f32) (R : sProp 𝕄) (v : Vec F S2048x2048 .f32) : Prop :=
  ∀ {Q : PUnit → sProp 𝕄} {hl : wM.view.LoadsAt rectW.toLoadRect} {k : Vec F S2048x2048 .f32 → Prog (TpuEff nD τ sig (Elt F) Λ₀ .tc) PUnit},
    R ⊢ iprop((R -∗ WP c (k v) Q) -∗ WP c (.op (.load wM rectW.toLoadRect hl) k) Q)

theorem c1_0 : Scalar.cmpi .ne (Scalar.extui (Scalar.cmpi .eq (BitVec.ofNat 32 ((grid0.coords t0_0) 0).val) 0#32)) 0#32 = 1#1 := by decide
theorem c2_0 : ¬ k0_cond2 (grid0.coords t0_0) = 1#1 := by decide
theorem c1_1 : ¬ Scalar.cmpi .ne (Scalar.extui (Scalar.cmpi .eq (BitVec.ofNat 32 ((grid0.coords t0_1) 0).val) 0#32)) 0#32 = 1#1 := by decide
theorem c2_1 : k0_cond2 (grid0.coords t0_1) = 1#1 := by decide

theorem sound0 (c : Dev nD) (wM : Memref sig .tc .vmem S2048x2048 .f32) (hw : wM.IsWhole) (R : sProp 𝕄) (hR : WLoad c wM R (wAt m c t0_0)) (Kt : PUnit → sProp 𝕄) :
    iprop((tabPts c ∗ lgAny c ∗ sAny c ∗ lAny c ∗ pts c cc0_stg0_0 (xAt m c) ∗ R ∗ pts c cc0_stg2_0 (labAt m c))
        ∗ ((tabPts c ∗ lgAny c ∗ sHas c (s1 m c) ∗ lHas c (l1 m c) ∗ pts c cc0_stg0_0 (xAt m c) ∗ R ∗ pts c cc0_stg2_0 (labAt m c)) -∗ Kt ⟨⟩))
      ⊢ WP c (bodyAt (F := F) t0_0 wM hw) Kt := by
  unfold bodyAt
  simp only [cc0_body_eq_skeleton]; unfold cc0_body_skel
  simp only [dif_neg c2_0]
  simp only [k0_part7_eq_skeleton]; unfold k0_part7_skel
  simp only [dif_pos c1_0]
  simp only [smemLoad, smemLoadElt, Prog.lift, Prog.bind_op, Prog.bind_ret, Prog.pure_eq_ret]
  unfold tabPts lgAny sAny lAny sHas lHas
  iintro ⟨⟨Ht, ⟨%f0, Hg⟩, ⟨%f1, Hs⟩, ⟨%f2, Hl⟩, Hx, HR, Hlab⟩, Hk⟩
  iapply (ld_s c f1) $$ Hs; iintro Hs
  iapply (st_s c f1) $$ Hs; iintro Hs
  iapply (ld_l c f2) $$ Hl; iintro Hl
  iapply (st_l c f2) $$ Hl; iintro Hl
  iapply (ld_x c (xAt m c)) $$ Hx; iintro Hx
  iapply hR $$ HR; iintro HR
  iapply (ld_lg c f0) $$ Hg; iintro Hg
  iapply (st_lg c f0) $$ Hg; iintro Hg
  iapply (ld_lg c _) $$ Hg; iintro Hg
  iapply (ld_s c _) $$ Hs; iintro Hs
  iapply (ld_s c _) $$ Hs; iintro Hs
  iapply (st_s c _) $$ Hs; iintro Hs
  iapply (dev_id c)
  iapply (ld_tab c) $$ Ht; iintro Ht
  iapply (ld_lab c (labAt m c)) $$ Hlab; iintro Hlab
  iapply (ld_l c _) $$ Hl; iintro Hl
  iapply (ld_l c _) $$ Hl; iintro Hl
  iapply (st_l c _) $$ Hl; iintro Hl
  iapply (wp_done c); imodintro
  iapply Hk
  isplitl [Ht]; · iexact Ht
  isplitl [Hg]; · iexists _; iexact Hg
  isplitl [Hs]; · iexact Hs
  isplitl [Hl]; · iexact Hl
  isplitl [Hx]; · iexact Hx
  isplitl [HR]; · iexact HR
  iexact Hlab

end Cert.Exch

end
-- ==== Proof.Fund.lean ====
/-
What the launch hands every device for the exchange: its three barrier duties to pay, its copies' duties, its credits, and the
right to open its own six copy counters once the kernel is entered.
-/
module

public import proofs.«01_k».proof.Proof.Point

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The tokens -/

def tokFn : Dev nD × (Fin 6 ⊕ Fin 3) → GSem nD τ sig × ℕ × Fin 3
  | (c, .inl k) => (dmaCell (c, k), 0, 0)
  | (c, .inr i) => (barCell c, 0, i)

theorem osem_ne_bar (k : Fin 6) : osem k ≠ SemLoc.reg barS := by revert k; decide

theorem tokFn_injective : Function.Injective tokFn := by
  rintro ⟨c, k | i⟩ ⟨c', k' | i'⟩ h
  · have := dmaCell_inj (congrArg Prod.fst h); rw [Prod.mk.injEq] at this; rw [this.1, this.2]
  · exact absurd (congrArg (fun t : GSem nD τ sig × ℕ × Fin 3 => t.1.2) h) (osem_ne_bar k)
  · exact absurd (congrArg (fun t : GSem nD τ sig × ℕ × Fin 3 => t.1.2) h).symm (osem_ne_bar k')
  · have h1 : c = c' := barCell_inj (congrArg Prod.fst h)
    have h2 : i = i' := congrArg (fun t : GSem nD τ sig × ℕ × Fin 3 => t.2.2) h
    rw [h1, h2]

def allToks : Finset (GSem nD τ sig × ℕ × Fin 3) := Finset.univ.map ⟨tokFn, tokFn_injective⟩

theorem cells_disjoint : Disjoint barCells dmaCells := Finset.disjoint_left.mpr fun g hb hd => by
  obtain ⟨c, -, rfl⟩ := Finset.mem_map.mp hb
  obtain ⟨⟨c', k⟩, -, h⟩ := Finset.mem_map.mp hd
  exact osem_ne_bar k (congrArg Prod.snd h)

/-- The tokens of the duties at device `c`'s own cells. -/
def toks (c : Dev nD) : sProp 𝕄 :=
  iprop((dutyTok ER (sendCell c 0) 0 0 ∗ dutyTok ER (sendCell c 1) 0 0 ∗ dutyTok ER (sendCell c 2) 0 0
      ∗ dutyTok ER (recvCell c 0) 0 0 ∗ dutyTok ER (recvCell c 1) 0 0 ∗ dutyTok ER (recvCell c 2) 0 0)
    ∗ (dutyTok ER (barCell c) 0 0 ∗ dutyTok ER (barCell c) 0 1 ∗ dutyTok ER (barCell c) 0 2))

theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem toks_of : (bigSep allToks fun x => (dutyTok ER x.1 x.2.1 x.2.2 : sProp 𝕄)) = bigSep Finset.univ fun c : Dev nD => toks c := by
  unfold allToks
  rw [bigSep_map, bigSep_univ_prod]
  refine bigSep_congr fun c _ => ?_
  rw [bigSep_univ_sum]
  have h1 := bigSep_six (F := F) fun k => dutyTok ER (dmaCell (c, k)) 0 0
  have h2 := bigSep_three (F := F) fun i => dutyTok ER (barCell c) 0 i
  unfold toks
  exact congrArg₂ (fun a b : sProp 𝕄 => iprop(a ∗ b)) h1 h2

/-- The tokens a device pays with in step `i`: its own departure's, its partner's arrival's, its signal's at its partner. -/
def pay (i : Fin 3) (c : Dev nD) : sProp 𝕄 :=
  iprop(dutyTok ER (sendCell c i) 0 0 ∗ dutyTok ER (recvCell (peer i c) i) 0 0 ∗ dutyTok ER (barCell (peer i c)) 0 i)

theorem recv_swap (i : Fin 3) : (bigSep Finset.univ fun c : Dev nD => (dutyTok ER (recvCell c i) 0 0 : sProp 𝕄))
    = bigSep Finset.univ fun c : Dev nD => dutyTok ER (recvCell (peer i c) i) 0 0 := bigSep_univ_equiv (swap i) _
theorem bar_swap (i : Fin 3) : (bigSep Finset.univ fun c : Dev nD => (dutyTok ER (barCell c) 0 i : sProp 𝕄))
    = bigSep Finset.univ fun c : Dev nD => dutyTok ER (barCell (peer i c)) 0 i := bigSep_univ_equiv (swap i) _

/-- Every device's own tokens, dealt to the devices that pay with them. -/
theorem toks_around : (bigSep Finset.univ fun c : Dev nD => (toks c : sProp 𝕄)) ⊢ bigSep Finset.univ fun c : Dev nD => iprop(pay 0 c ∗ pay 1 c ∗ pay 2 c) := by
  unfold toks pay
  simp only [bigSep_sep']
  rw [recv_swap 0, recv_swap 1, recv_swap 2, bar_swap 0, bar_swap 1, bar_swap 2]
  iintro ⟨⟨S0, S1, S2, R0, R1, R2⟩, B0, B1, B2⟩
  isplitl [S0 R0 B0]
  · isplitl [S0]; · iexact S0
    isplitl [R0]; · iexact R0
    iexact B0
  isplitl [S1 R1 B1]
  · isplitl [S1]; · iexact S1
    isplitl [R1]; · iexact R1
    iexact B1
  isplitl [S2]; · iexact S2
  isplitl [R2]; · iexact R2
  iexact B2

/-! ## The credits -/

theorem cell_eq_iff {a b : Dev nD} {sm sm' : SemLoc sig} : (((a : Thread nD τ), sm) : GSem nD τ sig) = ((b : Thread nD τ), sm') ↔ a = b ∧ sm = sm' :=
  ⟨fun h => ⟨Fin.ext (congrArg (fun g : GSem nD τ sig => g.1.1.val) h), congrArg Prod.snd h⟩, fun ⟨h, h'⟩ => by rw [h, h']⟩
theorem eq_peer_iff {i : Fin 3} {d c : Dev nD} : c = peer i d ↔ d = peer i c :=
  ⟨fun h => by rw [h, peer_peer], fun h => by rw [h, peer_peer]⟩

theorem bar_ne_recv (i : Fin 3) : SemLoc.reg barS ≠ SemLoc.dma (recvS i) := by revert i; decide
theorem recvS_inj (i j : Fin 3) (h : SemLoc.dma (sig := sig) (recvS i) = SemLoc.dma (recvS j)) : i = j := by revert i j; decide

theorem owR_bar (j : Fin 3) (d c : Dev nD) : owR j d (barCell c) () = 0 := by
  rw [tallyAt_apply, if_neg fun h => bar_ne_recv j (cell_eq_iff.mp h.1).2]
theorem owB_bar (j : Fin 3) (d c : Dev nD) : owB j d (barCell c) () = if d = peer j c then 1 else 0 := by
  rw [tallyAt_apply]
  by_cases h : d = peer j c
  · rw [if_pos ⟨cell_eq_iff.mpr ⟨eq_peer_iff.mpr h, rfl⟩, rfl⟩, if_pos h]
  · rw [if_neg (fun h' => h (eq_peer_iff.mp (cell_eq_iff.mp h'.1).1)), if_neg h]
theorem owB_recv (i j : Fin 3) (d c : Dev nD) : owB j d (recvCell c i) () = 0 := by
  rw [tallyAt_apply, if_neg fun h => bar_ne_recv i (cell_eq_iff.mp h.1).2.symm]
theorem owR_recv (i j : Fin 3) (d c : Dev nD) : owR j d (recvCell c i) () = if j = i then (if d = peer i c then N else 0) else 0 := by
  rw [tallyAt_apply]
  by_cases hj : j = i
  · subst hj
    rw [if_pos rfl]
    by_cases h : d = peer j c
    · rw [if_pos ⟨cell_eq_iff.mpr ⟨eq_peer_iff.mpr h, rfl⟩, rfl⟩, if_pos h]
    · rw [if_neg (fun h' => h (eq_peer_iff.mp (cell_eq_iff.mp h'.1).1)), if_neg h]
  · rw [if_neg hj, if_neg fun h => hj (recvS_inj _ _ (cell_eq_iff.mp h.1).2).symm]

theorem owed_bar (d c : Dev nD) : O₀ d (barCell c) () = (if d = peer 2 c then 1 else 0) + (if d = peer 1 c then 1 else 0) + (if d = peer 0 c then 1 else 0) := by
  unfold O₀ O₁
  simp only [Pi.add_apply, Finsupp.add_apply, owR_bar, owB_bar, Nat.zero_add]
theorem owed_recv (i : Fin 3) (d c : Dev nD) : O₀ d (recvCell c i) () = if d = peer i c then N else 0 := by
  unfold O₀ O₁
  simp only [Pi.add_apply, Finsupp.add_apply, owR_recv, owB_recv, Nat.add_zero]
  fin_cases i <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  simp only [Finset.sum_add_distrib, Finset.sum_ite_eq', Finset.mem_univ, if_true]
theorem launch_recv (i : Fin 3) (c : Dev nD) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv i d c]
  simp only [Finset.sum_ite_eq', Finset.mem_univ, if_true]

/-- Device `c`'s credits: three signals at its barrier, one row in each receive counter. -/
theorem creds (c : Dev nD) : (Pipeline.launchCred O₀ c : sProp 𝕄)
    ⊢ iprop(cred (tallyAt (barCell c) () 3) ∗ cred (tallyAt (recvCell c 0) () N) ∗ cred (tallyAt (recvCell c 1) () N) ∗ cred (tallyAt (recvCell c 2) () N)) := by
  unfold Pipeline.launchCred
  rw [bigSep_sdiff_split (Finset.subset_univ ([SemLoc.reg barS, .dma (recvS 0), .dma (recvS 1), .dma (recvS 2)].toFinset : Finset (SemLoc sig))),
    bigSep_eq_bigSepL_of_eq [SemLoc.reg barS, .dma (recvS 0), .dma (recvS 1), .dma (recvS 2)] rfl (by decide)]
  rw [← launch_bar c, ← launch_recv 0 c, ← launch_recv 1 c, ← launch_recv 2 c]
  exact sep_elim_left

/-! ## What a device carries to the kernel's entry -/

/-- Device `c`'s duties and credits of step `i`, before its own counters are opened. -/
def preStep (c : Dev nD) (i : Fin 3) : sProp 𝕄 :=
  iprop(pay i c ∗ cred (tallyAt (recvCell c i) () N) ∗ reached ER (barCell (peer i c)) 0)

def carry (κ : GSem nD τ sig → ℕ) (c : Dev nD) : sProp 𝕄 :=
  iprop(records m κ ∗ atPos ER (barCell c) 0 ∅ 0 ∗ cred (tallyAt (barCell c) () 3) ∗ preStep c 0 ∗ preStep c 1 ∗ preStep c 2
    ∗ bigSep Finset.univ fun k : Fin 6 => openTok ER (dmaCell (c, k)))

theorem unscopedSems0_eq (c : Dev nD) : (unscopedSems0 c : sProp 𝕄) = semVal (barCell c) 0 := by
  unfold unscopedSems0; rw [bigSep_eq_bigSepL_of_eq [SemLoc.reg barS] (by decide) (by decide)]; rfl

/-- Opening device `c`'s six copy counters at the kernel's entry. -/
theorem open_cells (κ : GSem nD τ sig → ℕ) (c : Dev nD) :
    iprop(records m κ ∗ (bigSep Finset.univ fun k : Fin 6 => openTok ER (dmaCell (c, k))) ∗ bigSep Finset.univ fun k : Fin 6 => semVal (dmaCell (c, k)) 0)
      ⊢ (|={Set.univ}=> bigSep Finset.univ fun k : Fin 6 => iprop(atPos ER (dmaCell (c, k)) 0 ∅ 0 ∗ reached ER (dmaCell (c, k)) 0) : sProp 𝕄) := by
  have h (k : Fin 6) : iprop(records m κ ∗ (openTok ER (dmaCell (c, k)) ∗ semVal (dmaCell (c, k)) 0))
      ⊢ (|={Set.univ}=> iprop(atPos ER (dmaCell (c, k)) 0 ∅ 0 ∗ reached ER (dmaCell (c, k)) 0) : sProp 𝕄) := by
    iintro ⟨#HI, Ht, Hv⟩
    iapply (Rounds.cell_open ER (sched m) (Set.mem_univ (κ (dmaCell (c, k)))))
    isplitr; · iapply (inv_of m κ _ (mem_dma c k)); iexact HI
    isplitl [Ht]; · iexact Ht
    iexact Hv
  refine BIBase.Entails.trans ?_ (bigSep_fupd Finset.univ _)
  refine BIBase.Entails.trans ?_ (bigSep_mono fun k _ => h k)
  rw [bigSep_sep', bigSep_sep']
  exact sep_mono_left (BI.bigSep_of_persistent Finset.univ (records m κ))

theorem ghost_of (κ : GSem nD τ sig → ℕ) (c : Dev nD) :
    iprop(carry m κ c ∗ (bigSep Finset.univ fun k : Fin 6 => semVal (dmaCell (c, k)) 0) ∗ levAts L lv)
      ⊢ (|={Set.univ}=> iprop(∃ κ, ghost m κ c) : sProp 𝕄) := by
  unfold carry
  iintro ⟨⟨#HI, Hb, Hcb, H0, H1, H2, Ho⟩, Hv, Hl⟩
  imod (open_cells m κ c) $$ [Ho Hv] with Hc
  · isplitr; · iexact HI
    isplitl [Ho] <;> iassumption
  imodintro
  ihave Hc := (Entails.of_eq (bigSep_six (F := F) fun k => iprop(atPos ER (dmaCell (c, k)) 0 ∅ 0 ∗ reached ER (dmaCell (c, k)) 0))) $$ Hc
  icases Hc with ⟨⟨A0, R0⟩, ⟨A1, R1⟩, ⟨A2, R2⟩, ⟨A3, R3⟩, ⟨A4, R4⟩, ⟨A5, R5⟩⟩
  unfold preStep pay
  icases H0 with ⟨⟨S0, V0, B0⟩, C0, P0⟩
  icases H1 with ⟨⟨S1, V1, B1⟩, C1, P1⟩
  icases H2 with ⟨⟨S2, V2, B2⟩, C2, P2⟩
  iexists κ
  unfold ghost stepG
  isplitr; · iexact HI
  isplitl [Hl]; · iexact Hl
  isplitl [Hb]; · iexact Hb
  isplitl [Hcb]; · iexact Hcb
  isplitl [A0 R0 A3 R3 S0 V0 B0 C0 P0]
  · isplitl [A0]; · iexact A0
    isplitl [R0]; · iexact R0
    isplitl [A3]; · iexact A3
    isplitl [R3]; · iexact R3
    isplitl [S0]; · iexact S0
    isplitl [V0]; · iexact V0
    isplitl [C0]; · iexact C0
    isplitl [B0]; · iexact B0
    iexact P0
  isplitl [A1 R1 A4 R4 S1 V1 B1 C1 P1]
  · isplitl [A1]; · iexact A1
    isplitl [R1]; · iexact R1
    isplitl [A4]; · iexact A4
    isplitl [R4]; · iexact R4
    isplitl [S1]; · iexact S1
    isplitl [V1]; · iexact V1
    isplitl [C1]; · iexact C1
    isplitl [B1]; · iexact B1
    iexact P1
  isplitl [A2]; · iexact A2
  isplitl [R2]; · iexact R2
  isplitl [A5]; · iexact A5
  isplitl [R5]; · iexact R5
  isplitl [S2]; · iexact S2
  isplitl [V2]; · iexact V2
  isplitl [C2]; · iexact C2
  isplitl [B2]; · iexact B2
  iexact P2

/-! ## Funding at launch -/

theorem reached_all (i : Fin 3) (c : Dev nD) :
    (bigSep barCells fun g => (reached ER g 0 : sProp 𝕄)) ⊢ reached ER (barCell (peer i c)) 0 :=
  bigSep_elim (Finset.mem_map.mpr ⟨peer i c, Finset.mem_univ _, rfl⟩)

theorem carry_intro (κ : GSem nD τ sig → ℕ) (c : Dev nD) :
    iprop((records m κ ∗ bigSep barCells fun g => reached ER g 0)
        ∗ (atPos ER (barCell c) 0 ∅ 0 ∗ Pipeline.launchCred O₀ c ∗ (pay 0 c ∗ pay 1 c ∗ pay 2 c) ∗ bigSep Finset.univ fun k : Fin 6 => openTok ER (dmaCell (c, k))))
      ⊢ (iprop(∃ κ, carry m κ c) : sProp 𝕄) := by
  iintro ⟨⟨#HI, #HR⟩, Ha, Hcr, ⟨P0, P1, P2⟩, Ho⟩
  ihave Hcr := (creds (F := F) c) $$ Hcr
  icases Hcr with ⟨CB, C0, C1, C2⟩
  iexists κ
  unfold carry preStep
  isplitr; · iexact HI
  isplitl [Ha]; · iexact Ha
  isplitl [CB]; · iexact CB
  isplitl [P0 C0]
  · isplitl [P0]; · iexact P0
    isplitl [C0]; · iexact C0
    iapply (reached_all (F := F) 0 c); iexact HR
  isplitl [P1 C1]
  · isplitl [P1]; · iexact P1
    isplitl [C1]; · iexact C1
    iapply (reached_all (F := F) 1 c); iexact HR
  isplitl [P2 C2]
  · isplitl [P2]; · iexact P2
    isplitl [C2]; · iexact C2
    iapply (reached_all (F := F) 2 c); iexact HR
  iexact Ho

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- From the launch's counters, credits and ghost element to what every device carries. -/
theorem fund :
    iprop((bigSep Finset.univ fun c : Dev nD => unscopedSems0 c) ∗ (bigSep Finset.univ fun c : Dev nD => Pipeline.launchCred O₀ c)
        ∗ BI.own (ER (F := F) (launchOf barCells dmaCells allToks)))
      ⊢ (|={Set.univ}=> bigSep Finset.univ fun c : Dev nD => iprop(∃ κ, carry m κ c) : sProp 𝕄) := by
  have hv : (bigSep Finset.univ fun c : Dev nD => (unscopedSems0 c : sProp 𝕄)) ⊢ bigSep barCells fun g => semVal g 0 := by
    unfold barCells; rw [bigSep_map]
    exact bigSep_mono fun c _ => Entails.of_eq (unscopedSems0_eq (F := F) c)
  have hat : (bigSep barCells fun g => (atPos ER g 0 ∅ 0 : sProp 𝕄)) ⊢ bigSep Finset.univ fun c : Dev nD => atPos ER (barCell c) 0 ∅ 0 := by
    unfold barCells; rw [bigSep_map]; exact BI.Entails.refl _
  have hop : (bigSep dmaCells fun g => (openTok ER g : sProp 𝕄)) ⊢ bigSep Finset.univ fun c : Dev nD => bigSep Finset.univ fun k : Fin 6 => openTok ER (dmaCell (c, k)) := by
    unfold dmaCells; rw [bigSep_map, bigSep_univ_prod]; exact BI.Entails.refl _
  iintro ⟨Hv, Hcr, Hu⟩
  ihave Hv := hv $$ Hv
  imod (Rounds.fund_launch ER (sched m) cells_disjoint (fun g _ h => h) allToks) $$ [Hv Hu] with ⟨%κ, -, #Hinv, #Hr, Hat, Hop, Htok⟩
  · isplitl [Hv] <;> iassumption
  imodintro
  ihave Hat := hat $$ Hat
  ihave Hop := hop $$ Hop
  ihave Htok := ((Entails.of_eq (toks_of (F := F))).trans toks_around) $$ Htok
  iapply (with_persistent (R := iprop(records m κ ∗ bigSep barCells fun g => reached ER g 0)) fun c _ => carry_intro m κ c)
  isplitr
  · isplitl; · unfold records; iexact Hinv
    iexact Hr
  simp only [bigSep_sep']
  isplitl [Hat]; · iexact Hat
  isplitl [Hcr]; · iexact Hcr
  isplitl [Htok]; · iexact Htok
  iexact Hop

end Cert.Exch

end
-- ==== Proof.Last.lean ====
/-
The kernel's body at the last grid point: the handshake with the three partners, the three exchanges, the result.
-/
module

public import proofs.«01_k».proof.Proof.Point

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-- The last point: what the device owes is paid, every cell it waits on is closed at zero, the result is written. -/
theorem sound1 (c : Dev nD) (κ : GSem nD τ sig → ℕ) (W : Waits sig Unit) (wM : Memref sig .tc .vmem S2048x2048 .f32) (hw : wM.IsWhole) (R : sProp 𝕄) (hR : WLoad c wM R (wAt m c t0_1)) (fo) (Kt : PUnit → sProp 𝕄) :
    iprop((ghost m κ c ∗ tabPts c ∗ lgAny c ∗ sHas c (s1 m c) ∗ lHas c (l1 m c) ∗ rows c ∗ owes (c : Thread nD τ) (O₀ c) W
          ∗ pts c cc0_stg0_0 (xAt m c) ∗ R ∗ pts c cc0_stg2_0 (labAt m c) ∗ pts c cc0_stg3_0 fo)
        ∗ ((Φ₂ c ∗ (∃ W', owes (c : Thread nD τ) 0 W') ∗ pts c cc0_stg0_0 (xAt m c) ∗ R ∗ pts c cc0_stg2_0 (labAt m c) ∗ pts c cc0_stg3_0 (outAt m c)) -∗ Kt ⟨⟩))
      ⊢ WP c (bodyAt (F := F) t0_1 wM hw) Kt := by
  unfold bodyAt
  simp only [cc0_body_eq_skeleton]; unfold cc0_body_skel
  simp only [dif_pos c2_1]
  simp only [k0_part7_eq_skeleton]; unfold k0_part7_skel
  simp only [dif_neg c1_1]
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [smemLoad, smemLoadElt, semSignalWord, semWaitWord, Prog.lift, Prog.bind_op, Prog.bind_ret, Prog.pure_eq_ret]
  unfold tabPts lgAny sHas lHas rows ghost stepG
  iintro ⟨⟨⟨#HI, #Hlev, HaB, HcB, ⟨HaS0, #HrS0, HaR0, #HrR0, HtS0, HtR0, HcR0, HtB0, #HrB0⟩, ⟨HaS1, #HrS1, HaR1, #HrR1, HtS1, HtR1, HcR1, HtB1, #HrB1⟩, ⟨HaS2, #HrS2, HaR2, #HrR2, HtS2, HtR2, HcR2, HtB2, #HrB2⟩⟩,
    Ht, ⟨%f0, Hg⟩, Hs, Hl, ⟨⟨%e0, C0⟩, ⟨%e1, C1⟩, ⟨%e2, C2⟩, R0, R1, R2⟩, HO, Hx, HR, Hlab, Hout⟩, Hk⟩
  iapply (ld_x c (xAt m c)) $$ Hx; iintro Hx
  iapply hR $$ HR; iintro HR
  iapply (ld_lg c f0) $$ Hg; iintro Hg
  iapply (st_lg c (w := lgAt m c t0_1) f0) $$ Hg; iintro Hg
  iapply (ld_lg c _) $$ Hg; iintro Hg
  iapply (ld_s c _) $$ Hs; iintro Hs
  iapply (ld_s c _) $$ Hs; iintro Hs
  iapply (st_s c (w := Sv m 0 c) _) $$ Hs; iintro Hs
  iapply (dev_id c)
  iapply (ld_tab c) $$ Ht; iintro Ht
  iapply (ld_lab c (labAt m c)) $$ Hlab; iintro Hlab
  iapply (ld_l c _) $$ Hl; iintro Hl
  iapply (ld_l c _) $$ Hl; iintro Hl
  iapply (st_l c (w := Lv m 0 c) _) $$ Hl; iintro Hl
  -- the signal along axis 0
  iapply (wp_sig m c κ 0 _ (dev1_eq c _) (O₁ c + owB 2 c + owB 1 c) W) $$ [HO HtB0 R0]
  · isplitr; · iexact HI
    isplitl [HO]; · iexact HO
    isplitl [HtB0]; · iexact HtB0
    isplitl [R0]; · iexact R0
    isplitr; · iexact HrR0
    iexact HrB0
  iintro HO
  -- the signal along axis 1
  iapply (wp_sig m c κ 1 _ (dev2_eq c _) (O₁ c + owB 2 c) W) $$ [HO HtB1 R1]
  · isplitr; · iexact HI
    isplitl [HO]; · iexact HO
    isplitl [HtB1]; · iexact HtB1
    isplitl [R1]; · iexact R1
    isplitr; · iexact HrR1
    iexact HrB1
  iintro HO
  -- the signal along axis 2
  iapply (wp_sig m c κ 2 _ (dev3_eq c _) (O₁ c) W) $$ [HO HtB2 R2]
  · isplitr; · iexact HI
    isplitl [HO]; · iexact HO
    isplitl [HtB2]; · iexact HtB2
    isplitl [R2]; · iexact R2
    isplitr; · iexact HrR2
    iexact HrB2
  iintro HO
  -- the wait for the three partners
  iapply (wp_bar m c κ (O₁ c) (above_O₁ c) W) $$ [HcB HO HaB]
  · isplitr; · iexact HI
    isplitr; · iexact Hlev
    isplitl [HcB]; · iexact HcB
    isplitl [HO]; · iexact HO
    iexact HaB
  unfold readyPay
  iintro ⟨HO, HaB, ⟨R0, #HrP0⟩, ⟨R1, #HrP1⟩, ⟨R2, #HrP2⟩⟩
  unfold O₁
  -- step 0: fill the outgoing row, send it, take the partner's
  iapply (ld_s c (Sv m 0 c)) $$ Hs; iintro Hs
  iapply (ld_c c 0 0 _) $$ C0; iintro C0
  iapply (st_c c 0 0 (w := k0_pay5 (Sv m 0 c)) _) $$ C0; iintro C0
  iapply (ld_l c (Lv m 0 c)) $$ Hl; iintro Hl
  iapply (ld_c c 0 1 _) $$ C0; iintro C0
  iapply (st_c c 0 1 (w := k0_pay5 (Lv m 0 c)) _) $$ C0; iintro C0
  iapply (wp_xfer m c κ 0 _ (dev4_eq c _) (owR 2 c + owR 1 c) _ _ _ (sendS_eq 0) (recvS_eq 0) _ (hasRow_store cM 0 e0 (Sv m 0 c) (Lv m 0 c))) $$ [HO C0 R0 HtS0 HtR0]
  · isplitr; · iexact HI
    isplitl [C0]; · iexact C0
    isplitl [R0]; · iexact R0
    isplitl [HO]; · iexact HO
    isplitl [HtS0]; · iexact HtS0
    isplitr; · iexact HrS0
    isplitl [HtR0]; · iexact HtR0
    iexact HrP0
  iintro ⟨HcS0, HO⟩
  iapply (wp_left m c κ 0 (owR 2 c + owR 1 c) (above_add (above_owR 0 2 c (by decide)) (above_owR 0 1 c (by decide))) _ _ (sendS_eq 0) (src := rowV rM 0) (dst := rowV cM 0) rfl) $$ [HcS0 HO HaS0]
  · isplitr; · iexact HI
    isplitr; · iexact Hlev
    isplitl [HcS0]; · iexact HcS0
    isplitl [HO]; · iexact HO
    iexact HaS0
  iintro ⟨HO, HaS0, C0⟩
  iapply (wp_land m c κ 0 (owR 2 c + owR 1 c) (above_add (above_owR 2 2 c (by decide)) (above_owR 2 1 c (by decide))) _ _ (recvS_eq 0) (src := rowV cM 0) (dst := rowV rM 0) rfl) $$ [HcR0 HO HaR0]
  · isplitr; · iexact HI
    isplitr; · iexact Hlev
    isplitl [HcR0]; · iexact HcR0
    isplitl [HO]; · iexact HO
    iexact HaR0
  unfold recvPay
  iintro ⟨HO, HaR0, ⟨%g0, %hg0, R0⟩⟩
  iapply (ld_s c (Sv m 0 c)) $$ Hs; iintro Hs
  iapply (ld_r c 0 0 g0 _ hg0.1) $$ R0; iintro R0
  iapply (ld_s c (Sv m 0 c)) $$ Hs; iintro Hs
  iapply (st_s c (w := (Sv m 1 c)) _) $$ Hs; iintro Hs
  iapply (ld_l c (Lv m 0 c)) $$ Hl; iintro Hl
  iapply (ld_r c 0 1 g0 _ hg0.2) $$ R0; iintro R0
  iapply (ld_l c (Lv m 0 c)) $$ Hl; iintro Hl
  iapply (st_l c (w := (Lv m 1 c)) _) $$ Hl; iintro Hl
  -- step 1: fill the outgoing row, send it, take the partner's
  iapply (ld_s c (Sv m 1 c)) $$ Hs; iintro Hs
  iapply (ld_c c 1 0 _) $$ C1; iintro C1
  iapply (st_c c 1 0 (w := k0_pay5 (Sv m 1 c)) _) $$ C1; iintro C1
  iapply (ld_l c (Lv m 1 c)) $$ Hl; iintro Hl
  iapply (ld_c c 1 1 _) $$ C1; iintro C1
  iapply (st_c c 1 1 (w := k0_pay5 (Lv m 1 c)) _) $$ C1; iintro C1
  iapply (wp_xfer m c κ 1 _ (dev5_eq c _) (owR 2 c) _ _ _ (sendS_eq 1) (recvS_eq 1) _ (hasRow_store cM 1 e1 (Sv m 1 c) (Lv m 1 c))) $$ [HO C1 R1 HtS1 HtR1]
  · isplitr; · iexact HI
    isplitl [C1]; · iexact C1
    isplitl [R1]; · iexact R1
    isplitl [HO]; · iexact HO
    isplitl [HtS1]; · iexact HtS1
    isplitr; · iexact HrS1
    isplitl [HtR1]; · iexact HtR1
    iexact HrP1
  iintro ⟨HcS1, HO⟩
  iapply (wp_left m c κ 1 (owR 2 c) (above_owR 0 2 c (by decide)) _ _ (sendS_eq 1) (src := rowV rM 1) (dst := rowV cM 1) rfl) $$ [HcS1 HO HaS1]
  · isplitr; · iexact HI
    isplitr; · iexact Hlev
    isplitl [HcS1]; · iexact HcS1
    isplitl [HO]; · iexact HO
    iexact HaS1
  iintro ⟨HO, HaS1, C1⟩
  iapply (wp_land m c κ 1 (owR 2 c) (above_owR 3 2 c (by decide)) _ _ (recvS_eq 1) (src := rowV cM 1) (dst := rowV rM 1) rfl) $$ [HcR1 HO HaR1]
  · isplitr; · iexact HI
    isplitr; · iexact Hlev
    isplitl [HcR1]; · iexact HcR1
    isplitl [HO]; · iexact HO
    iexact HaR1
  unfold recvPay
  iintro ⟨HO, HaR1, ⟨%g1, %hg1, R1⟩⟩
  iapply (ld_s c (Sv m 1 c)) $$ Hs; iintro Hs
  iapply (ld_r c 1 0 g1 _ hg1.1) $$ R1; iintro R1
  iapply (ld_s c (Sv m 1 c)) $$ Hs; iintro Hs
  iapply (st_s c (w := (Sv m 2 c)) _) $$ Hs; iintro Hs
  iapply (ld_l c (Lv m 1 c)) $$ Hl; iintro Hl
  iapply (ld_r c 1 1 g1 _ hg1.2) $$ R1; iintro R1
  iapply (ld_l c (Lv m 1 c)) $$ Hl; iintro Hl
  iapply (st_l c (w := (Lv m 2 c)) _) $$ Hl; iintro Hl
  rw [show owR 2 c = 0 + owR 2 c from (zero_add _).symm]
  -- step 2: fill the outgoing row, send it, take the partner's
  iapply (ld_s c (Sv m 2 c)) $$ Hs; iintro Hs
  iapply (ld_c c 2 0 _) $$ C2; iintro C2
  iapply (st_c c 2 0 (w := k0_pay5 (Sv m 2 c)) _) $$ C2; iintro C2
  iapply (ld_l c (Lv m 2 c)) $$ Hl; iintro Hl
  iapply (ld_c c 2 1 _) $$ C2; iintro C2
  iapply (st_c c 2 1 (w := k0_pay5 (Lv m 2 c)) _) $$ C2; iintro C2
  iapply (wp_xfer m c κ 2 _ (dev6_eq c _) (0) _ _ _ (sendS_eq 2) (recvS_eq 2) _ (hasRow_store cM 2 e2 (Sv m 2 c) (Lv m 2 c))) $$ [HO C2 R2 HtS2 HtR2]
  · isplitr; · iexact HI
    isplitl [C2]; · iexact C2
    isplitl [R2]; · iexact R2
    isplitl [HO]; · iexact HO
    isplitl [HtS2]; · iexact HtS2
    isplitr; · iexact HrS2
    isplitl [HtR2]; · iexact HtR2
    iexact HrP2
  iintro ⟨HcS2, HO⟩
  iapply (wp_left m c κ 2 (0) (above_zero 0) _ _ (sendS_eq 2) (src := rowV rM 2) (dst := rowV cM 2) rfl) $$ [HcS2 HO HaS2]
  · isplitr; · iexact HI
    isplitr; · iexact Hlev
    isplitl [HcS2]; · iexact HcS2
    isplitl [HO]; · iexact HO
    iexact HaS2
  iintro ⟨HO, HaS2, C2⟩
  iapply (wp_land m c κ 2 (0) (above_zero 4) _ _ (recvS_eq 2) (src := rowV cM 2) (dst := rowV rM 2) rfl) $$ [HcR2 HO HaR2]
  · isplitr; · iexact HI
    isplitr; · iexact Hlev
    isplitl [HcR2]; · iexact HcR2
    isplitl [HO]; · iexact HO
    iexact HaR2
  unfold recvPay
  iintro ⟨HO, HaR2, ⟨%g2, %hg2, R2⟩⟩
  iapply (ld_s c (Sv m 2 c)) $$ Hs; iintro Hs
  iapply (ld_r c 2 0 g2 _ hg2.1) $$ R2; iintro R2
  iapply (ld_s c (Sv m 2 c)) $$ Hs; iintro Hs
  iapply (st_s c (w := (sFin m c)) _) $$ Hs; iintro Hs
  iapply (ld_l c (Lv m 2 c)) $$ Hl; iintro Hl
  iapply (ld_r c 2 1 g2 _ hg2.2) $$ R2; iintro R2
  iapply (ld_l c (Lv m 2 c)) $$ Hl; iintro Hl
  iapply (st_l c (w := (lFin m c)) _) $$ Hl; iintro Hl
  -- the result
  iapply (ld_s c (sFin m c)) $$ Hs; iintro Hs
  iapply (ld_l c (lFin m c)) $$ Hl; iintro Hl
  iapply (ld_out c fo) $$ Hout; iintro Hout
  iapply (st_out c (w := outAt m c) fo) $$ Hout; iintro Hout
  iapply (wp_done c)
  imod (close_cell m κ (barCell c) (mem_bar c)) $$ [HaB] with ZB
  · isplitr; · iexact HI
    iexact HaB
  imod (close_cell m κ (sendCell c 0) (mem_send c 0)) $$ [HaS0] with ZS0
  · isplitr; · iexact HI
    iexact HaS0
  imod (close_cell m κ (sendCell c 1) (mem_send c 1)) $$ [HaS1] with ZS1
  · isplitr; · iexact HI
    iexact HaS1
  imod (close_cell m κ (sendCell c 2) (mem_send c 2)) $$ [HaS2] with ZS2
  · isplitr; · iexact HI
    iexact HaS2
  imod (close_cell m κ (recvCell c 0) (mem_recv c 0)) $$ [HaR0] with ZR0
  · isplitr; · iexact HI
    iexact HaR0
  imod (close_cell m κ (recvCell c 1) (mem_recv c 1)) $$ [HaR1] with ZR1
  · isplitr; · iexact HI
    iexact HaR1
  imod (close_cell m κ (recvCell c 2) (mem_recv c 2)) $$ [HaR2] with ZR2
  · isplitr; · iexact HI
    iexact HaR2
  imodintro
  iapply Hk
  isplitl [Ht Hg Hs Hl C0 C1 C2 R0 R1 R2 ZB ZS0 ZS1 ZS2 ZR0 ZR1 ZR2]
  · unfold Φ₂ tabPts lgAny sAny lAny rows
    isplitl [Ht]; · iexact Ht
    isplitl [Hg]; · iexists _; iexact Hg
    isplitl [Hs]; · iexists _; iexact Hs
    isplitl [Hl]; · iexists _; iexact Hl
    isplitl [C0 C1 C2 R0 R1 R2]
    · isplitl [C0]; · iexact C0
      isplitl [C1]; · iexact C1
      isplitl [C2]; · iexact C2
      isplitl [R0]; · iexists _; iexact R0
      isplitl [R1]; · iexists _; iexact R1
      iexists _; iexact R2
    isplitl [ZB]; · iexact ZB
    isplitl [ZS0]; · iexact ZS0
    isplitl [ZS1]; · iexact ZS1
    isplitl [ZS2]; · iexact ZS2
    isplitl [ZR0]; · iexact ZR0
    isplitl [ZR1]; · iexact ZR1
    iexact ZR2
  isplitl [HO]; · iexists _; iexact HO
  isplitl [Hx]; · iexact Hx
  isplitl [HR]; · iexact HR
  isplitl [Hlab]; · iexact Hlab
  iexact Hout

end Cert.Exch

end
-- ==== Proof.Body.lean ====
/-
The pipeline's body obligation, from the two points' lemmas: the staging buffers taken as they come.
-/
module

public import proofs.«01_k».proof.Proof.Last

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

omit [FloatOps F] in
/-- A whole staging buffer held at `X`. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = pts c b X := by
  have h1 : (owns (Ix := Unit) (Name := ℕ) (U := UU) (Lvl := ℕ) (c : Thread nD τ) (Memref.whole b) fullShare X : sProp 𝕄) ⊢ pts c b X := by
    unfold owns; simp only [Memref.view_whole, View.read_whole, View.set_whole]
    iintro ⟨%f, %h, H⟩; subst h; iexact H
  have h2 : (pts c b X : sProp 𝕄) ⊢ owns (Ix := Unit) (Name := ℕ) (U := UU) (Lvl := ℕ) (c : Thread nD τ) (Memref.whole b) fullShare X := by
    unfold owns; simp only [Memref.view_whole, View.read_whole, View.set_whole]
    iintro H; iexists X; isplitr
    · ipureintro; rfl
    iexact H
  exact BI.Entails.antisymm h1 h2

abbrev slot (c : Dev nD) {s : Shape} {e : EltTy} (M : Memref sig .tc .vmem s e) (X : s.Idx → Elt F e) : sProp 𝕄 :=
  owns (Ix := Unit) (Name := ℕ) (U := UU) (Lvl := ℕ) (c : Thread nD τ) M fullShare X

/-- The body at point `t` on the staging buffers of numbers `j0`…`j3`. -/
abbrev bodyOn (t : Fin grid0.N) (j0 : Fin 1) (j1 : Fin 2) (j2 j3 : Fin 1) : Prog (TpuEff nD τ sig (Elt F) Λ₀ .tc) PUnit :=
  cc0_body (grid0.coords t) (Memref.whole main_v11) (Memref.isWhole_whole _) (stage0_0 j0) (hstage0_0 j0) (stage0_1 j1) (hstage0_1 j1)
    (stage0_2 j2) (hstage0_2 j2) (stage0_3 j3) (hstage0_3 j3)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6

/-- Either of the weight's staging buffers is loaded as it stands. -/
theorem wload (c : Dev nD) (j : Fin 2) (v : Vec F S2048x2048 .f32) : WLoad c (stage0_1 j) (slot c (stage0_1 j) v) v := by
  intro Q hl k
  match j with
  | 0 => rw [show slot c (stage0_1 0) v = pts (F := F) c cc0_stg1_0 v from owns_whole c cc0_stg1_0 v]; exact ld_w0 c v
  | 1 => rw [show slot c (stage0_1 1) v = pts (F := F) c cc0_stg1_1 v from owns_whole c cc0_stg1_1 v]; exact ld_w1 c v

theorem point0 (c : Dev nD) (j0 : Fin 1) (j1 : Fin 2) (j2 j3 : Fin 1) :
    iprop(Φ₀ m c ∗ (dats m c).owesAt () (t0_0 : Fin grid0.N).castSucc
        ∗ (∃ d, slot c (stage0_0 j0) ((dats m c).before (0 : Fin 4) t0_0 d)) ∗ (∃ d, slot c (stage0_1 j1) ((dats m c).before (1 : Fin 4) t0_0 d))
        ∗ (∃ d, slot c (stage0_2 j2) ((dats m c).before (2 : Fin 4) t0_0 d)) ∗ (∃ d, slot c (stage0_3 j3) ((dats m c).before (3 : Fin 4) t0_0 d)))
      ⊢ WP c (bodyOn (F := F) t0_0 j0 j1 j2 j3) fun _ =>
        iprop(Φ₁ m c ∗ (dats m c).owesAt () (t0_0 : Fin grid0.N).succ
          ∗ slot c (stage0_0 j0) (xAt m c) ∗ slot c (stage0_1 j1) (wAt m c t0_0) ∗ slot c (stage0_2 j2) (labAt m c)
          ∗ (∃ d, slot c (stage0_3 j3) ((dats m c).before (3 : Fin 4) t0_0 d))) := by
  obtain rfl : j0 = 0 := Subsingleton.elim _ _
  obtain rfl : j2 = 0 := Subsingleton.elim _ _
  obtain rfl : j3 = 0 := Subsingleton.elim _ _
  have hx : ∀ X, slot c (stage0_0 0) X = pts (F := F) c cc0_stg0_0 X := fun X => owns_whole c cc0_stg0_0 X
  have hl : ∀ X, slot c (stage0_2 0) X = pts (F := F) c cc0_stg2_0 X := fun X => owns_whole c cc0_stg2_0 X
  unfold Φ₀ Φ₁
  simp only [before_x0, before_w, before_lab0, hx, hl]
  iintro ⟨⟨HG, Ht, Hg, Hs, Hl, Hrows⟩, HO, ⟨%d0, Hx⟩, ⟨%d1, Hw⟩, ⟨%d2, Hlab⟩, Hout⟩
  iapply (sound0 m c (stage0_1 j1) (hstage0_1 j1) (slot c (stage0_1 j1) (wAt m c t0_0)) (wload c j1 _))
  isplitl [Ht Hg Hs Hl Hx Hw Hlab]
  · isplitl [Ht]; · iexact Ht
    isplitl [Hg]; · iexact Hg
    isplitl [Hs]; · iexact Hs
    isplitl [Hl]; · iexact Hl
    isplitl [Hx]; · iexact Hx
    isplitl [Hw]; · iexact Hw
    iexact Hlab
  iintro ⟨Ht, Hg, Hs, Hl, Hx, Hw, Hlab⟩
  isplitl [HG Ht Hg Hs Hl Hrows]
  · isplitl [HG]; · iexact HG
    isplitl [Ht]; · iexact Ht
    isplitl [Hg]; · iexact Hg
    isplitl [Hs]; · iexact Hs
    isplitl [Hl]; · iexact Hl
    iexact Hrows
  isplitl [HO]; · iexact HO
  isplitl [Hx]; · iexact Hx
  isplitl [Hw]; · iexact Hw
  isplitl [Hlab]; · iexact Hlab
  iexact Hout

theorem point1 (c : Dev nD) (j0 : Fin 1) (j1 : Fin 2) (j2 j3 : Fin 1) :
    iprop(Φ₁ m c ∗ (dats m c).owesAt () (t0_1 : Fin grid0.N).castSucc
        ∗ (∃ d, slot c (stage0_0 j0) ((dats m c).before (0 : Fin 4) t0_1 d)) ∗ (∃ d, slot c (stage0_1 j1) ((dats m c).before (1 : Fin 4) t0_1 d))
        ∗ (∃ d, slot c (stage0_2 j2) ((dats m c).before (2 : Fin 4) t0_1 d)) ∗ (∃ d, slot c (stage0_3 j3) ((dats m c).before (3 : Fin 4) t0_1 d)))
      ⊢ WP c (bodyOn (F := F) t0_1 j0 j1 j2 j3) fun _ =>
        iprop(Φ₂ c ∗ (dats m c).owesAt () (t0_1 : Fin grid0.N).succ
          ∗ slot c (stage0_0 j0) (xAt m c) ∗ slot c (stage0_1 j1) (wAt m c t0_1) ∗ slot c (stage0_2 j2) (labAt m c)
          ∗ slot c (stage0_3 j3) (outAt m c)) := by
  obtain rfl : j0 = 0 := Subsingleton.elim _ _
  obtain rfl : j2 = 0 := Subsingleton.elim _ _
  obtain rfl : j3 = 0 := Subsingleton.elim _ _
  have hx : ∀ X, slot c (stage0_0 0) X = pts (F := F) c cc0_stg0_0 X := fun X => owns_whole c cc0_stg0_0 X
  have hl : ∀ X, slot c (stage0_2 0) X = pts (F := F) c cc0_stg2_0 X := fun X => owns_whole c cc0_stg2_0 X
  have ho : ∀ X, slot c (stage0_3 0) X = pts (F := F) c cc0_stg3_0 X := fun X => owns_whole c cc0_stg3_0 X
  unfold Φ₁ Dat.owesAt Pipeline.owesWithin
  simp only [before_x1, before_w, before_lab1, hx, hl, ho]
  rw [show (dats m c).owed (t0_1 : Fin grid0.N).castSucc = O₀ c from rfl, show (dats m c).owed (t0_1 : Fin grid0.N).succ = 0 from rfl]
  iintro ⟨⟨⟨%κ, HG⟩, Ht, Hg, Hs, Hl, Hrows⟩, ⟨%W, %hW, HO⟩, ⟨%d0, Hx⟩, ⟨%d1, Hw⟩, ⟨%d2, Hlab⟩, ⟨%d3, Hout⟩⟩
  iapply (sound1 m c κ W (stage0_1 j1) (hstage0_1 j1) (slot c (stage0_1 j1) (wAt m c t0_1)) (wload c j1 _) _)
  isplitl [HG Ht Hg Hs Hl Hrows HO Hx Hw Hlab Hout]
  · isplitl [HG]; · iexact HG
    isplitl [Ht]; · iexact Ht
    isplitl [Hg]; · iexact Hg
    isplitl [Hs]; · iexact Hs
    isplitl [Hl]; · iexact Hl
    isplitl [Hrows]; · iexact Hrows
    isplitl [HO]; · iexact HO
    isplitl [Hx]; · iexact Hx
    isplitl [Hw]; · iexact Hw
    isplitl [Hlab]; · iexact Hlab
    iexact Hout
  iintro ⟨HΦ, ⟨%W', HO⟩, Hx, Hw, Hlab, Hout⟩
  isplitl [HΦ]; · iexact HΦ
  isplitl [HO]
  · iexists W'; isplitr
    · ipureintro; exact fun _ _ => Or.inl trivial
    iexact HO
  isplitl [Hx]; · iexact Hx
  isplitl [Hw]; · iexact Hw
  isplitl [Hlab]; · iexact Hlab
  iexact Hout

/-- What the body leaves in the result's staging buffer: the result at the last point, nothing new before. -/
def out3 (c : Dev nD) (t : Fin grid0.N) (j3 : Fin 1) : sProp 𝕄 :=
  match idle0 (3 : Fin 4) (grid0.coords t) with
  | true =>
    match ((cfgD (F := F) c).win (3 : Fin 4)).flush t with
    | false => iprop(∃ d, slot c (stage0_3 j3) ((dats m c).before (3 : Fin 4) t d))
    | true => slot c (stage0_3 j3) ((dats m c).after (3 : Fin 4) t)
  | false => slot c (stage0_3 j3) ((dats m c).after (3 : Fin 4) t)

theorem idle3_0 : idle0 (3 : Fin 4) (grid0.coords t0_0) = true := by decide
theorem idle3_1 : idle0 (3 : Fin 4) (grid0.coords t0_1) = false := by decide
theorem noflush_3 (c : Dev nD) : ((cfgD (F := F) c).win (3 : Fin 4)).flush t0_0 = false := rfl
theorem out3_0 (c : Dev nD) (j3 : Fin 1) : out3 m c t0_0 j3 = iprop(∃ d, slot c (stage0_3 j3) ((dats m c).before (3 : Fin 4) t0_0 d)) := by
  unfold out3; rw [idle3_0, noflush_3]
theorem out3_1 (c : Dev nD) (j3 : Fin 1) : out3 m c t0_1 j3 = slot c (stage0_3 j3) (outAt m c) := by
  unfold out3; rw [idle3_1]; rfl

/-- The obligation at a point, on any staging buffers. -/
theorem point (c : Dev nD) (t : Fin grid0.N) (j0 : Fin 1) (j1 : Fin 2) (j2 j3 : Fin 1) :
    iprop((dats m c).Φ t.castSucc ∗ (dats m c).owesAt () t.castSucc
        ∗ (∃ d, slot c (stage0_0 j0) ((dats m c).before (0 : Fin 4) t d)) ∗ (∃ d, slot c (stage0_1 j1) ((dats m c).before (1 : Fin 4) t d))
        ∗ (∃ d, slot c (stage0_2 j2) ((dats m c).before (2 : Fin 4) t d)) ∗ (∃ d, slot c (stage0_3 j3) ((dats m c).before (3 : Fin 4) t d)))
      ⊢ WP c (bodyOn (F := F) t j0 j1 j2 j3) fun _ =>
        iprop((dats m c).Φ t.succ ∗ (dats m c).owesAt () t.succ
          ∗ slot c (stage0_0 j0) ((dats m c).after (0 : Fin 4) t) ∗ slot c (stage0_1 j1) ((dats m c).after (1 : Fin 4) t) ∗ slot c (stage0_2 j2) ((dats m c).after (2 : Fin 4) t)
          ∗ out3 m c t j3) := by
  rcases fin_N0 t with rfl | rfl
  · rw [out3_0]; exact point0 m c j0 j1 j2 j3
  · rw [out3_1]; exact point1 m c j0 j1 j2 j3

theorem body_obligation (c : Dev nD) : BodyObligation (dats (F := F) m c) (defs₀ (F := F)) 𝒱₀ () Set.univ := fun t => by
  rw [bigSep_W0, bigSep_W0]
  exact point m c t ((cfgD (F := F) c).slots t (0 : Fin 4)) ((cfgD (F := F) c).slots t (1 : Fin 4)) ((cfgD (F := F) c).slots t (2 : Fin 4)) ((cfgD (F := F) c).slots t (3 : Fin 4))

end Cert.Exch

end
-- ==== Proof.Region.lean ====
/-
The kernel's region: what the host operations leave in the prefetched table, the scratch buffers as the rows the exchange moves
and back, and the record of the region from its entry to its exit.
-/
module

public import proofs.«01_k».proof.Proof.Fund
public import proofs.«01_k».proof.Proof.Body
public import proofs.«01_k».proof.Proof.Gen.KernelIdeal.Regions
public import Idealize.ShloMosaic.Lib.StableHlo.RunRead
public import Idealize.ShloMosaic.Lib.Pipeline.RegionArraysT
public import Idealize.ShloMosaic.Lib.Pipeline.ValueKit
public import Idealize.ShloMosaic.Lib.Ring

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ UU ℕ

variable (m : (ℓ : Loc nD τ sig) → Buf (Elt F) ℓ)

/-! ## The table -/

/-- The host operations compute device `c`'s index along the first two mesh axes. -/
theorem word_eq (c : Dev nD) :
    addi (muli (constantI S_ 32 2#32) (Host.remui (Host.divui (constantI S_ 32 (Dev.word c)) (constantI S_ 32 4#32)) (constantI S_ 32 2#32)))
      (Host.remui (Host.divui (constantI S_ 32 (Dev.word c)) (constantI S_ 32 2#32)) (constantI S_ 32 2#32)) = fun _ => BitVec.ofNat 32 (c.val / 2) := by
  funext x
  show (2#32 * (BitVec.ofNat 32 c.val / 4#32 % 2#32) + (BitVec.ofNat 32 c.val / 2#32 % 2#32) : BitVec 32) = _
  revert c; decide

theorem v11_eq (c : Dev nD) : V1 m c main_v11 = tab (F := F) c := by
  unfold V1
  after_reads_simp
  simp only [id]
  rw [word_eq]
  rfl

/-! ## The scratch buffers as rows -/

theorem rows_disj (b b' : Fin 3) (h : b ≠ b') : Disjoint (rowRect b).set (rowRect b').set := by
  rw [Finset.disjoint_left]
  intro y hy hy'
  rw [Rect.mem_set_unit] at hy hy'
  have h1 := hy (0 : Fin 3); have h2 := hy' (0 : Fin 3)
  have e1 : b.val ≤ (y (0 : Fin 3)).val ∧ (y (0 : Fin 3)).val < b.val + 1 := h1
  have e2 : b'.val ≤ (y (0 : Fin 3)).val ∧ (y (0 : Fin 3)).val < b'.val + 1 := h2
  exact h (Fin.ext (by omega))

theorem rows_cover : Finset.univ.biUnion (fun b : Fin 3 => (rowRect b).set) = Finset.univ := by
  ext y
  simp only [Finset.mem_biUnion, Finset.mem_univ, true_and, iff_true]
  refine ⟨⟨(y (0 : Fin 3)).val, (y (0 : Fin 3)).isLt⟩, ?_⟩
  rw [Rect.mem_set_unit]
  intro a
  have := (y a).isLt
  fin_cases a
  · exact ⟨Nat.le_refl _, Nat.lt_succ_self _⟩
  · exact ⟨Nat.zero_le _, by simpa using this⟩
  · exact ⟨Nat.zero_le _, by simpa using this⟩

theorem cPts_eq (c : Dev nD) (i : Fin 3) (f : Buf (Elt F) ((c : Thread nD τ).loc cc0_scratch3)) :
    cPts c i f = (((c : Thread nD τ).loc cc0_scratch3) ↦[(rowRect i).set]{fullShare} f : sProp 𝕄) := by
  unfold cPts
  rw [row_set]
  exact congrArg (fun S => (((c : Thread nD τ).loc cc0_scratch3) ↦[S]{fullShare} f : sProp 𝕄)) (show Finset.map _ _ = _ from Finset.map_refl)
theorem rPts_eq (c : Dev nD) (i : Fin 3) (f : Buf (Elt F) ((c : Thread nD τ).loc cc0_scratch4)) :
    rPts c i f = (((c : Thread nD τ).loc cc0_scratch4) ↦[(rowRect i).set]{fullShare} f : sProp 𝕄) := by
  unfold rPts
  rw [row_set]
  exact congrArg (fun S => (((c : Thread nD τ).loc cc0_scratch4) ↦[S]{fullShare} f : sProp 𝕄)) (show Finset.map _ _ = _ from Finset.map_refl)

abbrev whole3 (c : Dev nD) : sProp 𝕄 := iprop(∃ f : Buf (Elt F) ((c : Thread nD τ).loc cc0_scratch3), ((c : Thread nD τ).loc cc0_scratch3) ↦{fullShare} f)
abbrev whole4 (c : Dev nD) : sProp 𝕄 := iprop(∃ f : Buf (Elt F) ((c : Thread nD τ).loc cc0_scratch4), ((c : Thread nD τ).loc cc0_scratch4) ↦{fullShare} f)

theorem rows_split (c : Dev nD) : iprop(whole3 (F := F) c ∗ whole4 c) ⊢ rows c := by
  iintro ⟨H3, H4⟩
  ihave H3 := (Ring.slots3_split (ℓ := (c : Thread nD τ).loc cc0_scratch3) (fun b => (rowRect b).set) rows_disj rows_cover
    (cPts c 0) (cPts c 1) (cPts c 2) (cPts_eq c 0) (cPts_eq c 1) (cPts_eq c 2)) $$ H3
  ihave H4 := (Ring.slots3_split (ℓ := (c : Thread nD τ).loc cc0_scratch4) (fun b => (rowRect b).set) rows_disj rows_cover
    (rPts c 0) (rPts c 1) (rPts c 2) (rPts_eq c 0) (rPts_eq c 1) (rPts_eq c 2)) $$ H4
  icases H3 with ⟨A, B, C⟩
  unfold rows
  isplitl [A]; · iexact A
  isplitl [B]; · iexact B
  isplitl [C]; · iexact C
  iexact H4

theorem rows_join (c : Dev nD) : rows (F := F) c ⊢ iprop(whole3 c ∗ whole4 c) := by
  unfold rows
  iintro ⟨A, B, C, D⟩
  isplitl [A B C]
  · iapply (Ring.slots3_join (ℓ := (c : Thread nD τ).loc cc0_scratch3) (fun b => (rowRect b).set) rows_disj rows_cover
      (cPts c 0) (cPts c 1) (cPts c 2) (cPts_eq c 0) (cPts_eq c 1) (cPts_eq c 2))
    isplitl [A]; · iexact A
    isplitl [B]; · iexact B
    iexact C
  iapply (Ring.slots3_join (ℓ := (c : Thread nD τ).loc cc0_scratch4) (fun b => (rowRect b).set) rows_disj rows_cover
    (rPts c 0) (rPts c 1) (rPts c 2) (rPts_eq c 0) (rPts_eq c 1) (rPts_eq c 2))
  iexact D

theorem prefHeld_eq (c : Dev nD) :
    (Pipeline.prefHeld pre0 c (fun _ => fullShare) (pf (F := F) c) : sProp 𝕄) = tabPts c := by
  unfold Pipeline.prefHeld
  exact bigSep_univ_eq_bigSepL [0] (by decide) (by decide) _

/-! ## The region's record -/

abbrev admD (c : Dev nD) (p : Fin 1) : (pcfgs (F := F) p).Adm := adm c p
abbrev pdats (p : Fin 1) (c : Dev nD) : Dat τ (Elt F) Unit ℕ UU ℕ (Pipeline.pinD (pcfgs (F := F)) admD c p) c := match p with | 0 => dats m c

theorem phinj : Function.Injective (Pipeline.PerCore.cellOf (nD := nD) (τ := τ) (Pipeline.pinD (pcfgs (F := F)) admD)) :=
  Pipeline.PerCore.cellOf_injective _ (fun c p => Pipeline.specSemsDistinct_of_nodup _ (by
      fin_cases p; exact semsDistinct 0))
    (fun c p p' h => absurd (Subsingleton.elim p p') h)

theorem ownSemFacts : Pipeline.OwnSemFacts spec0 osem := by decide

theorem waits (c : Dev nD) : (levAts L lv : sProp 𝕄) ⊢ Pipeline.PerCore.cellsWaits (Pipeline.pinD (pcfgs (F := F)) admD) (pdats m) () 0 c :=
  Pipeline.PerCore.cellsWaits_intro _ (pdats m) () 0 c fun w s t => mayWait_of c _ _ (by
    have hk : level' (kind (.dma (((Pipeline.pinD (pcfgs (F := F)) admD c 0).win w).sem s))) = 0 := by
      have h : ∀ (w : Fin 4) (s), level' (kind (.dma ((spec0 w).sem s))) = 0 := by decide
      exact h w s
    rw [hk]
    rcases t with ⟨_ | _ | t, ht⟩
    · exact above_O₀ c
    · exact above_O₀ c
    · exact above_zero 0)

/-! ## The arrays -/

/-- The four windowed arrays of device `c`, the result at `o`. -/
def arrs (c : Dev nD) (o : Vec F S1024 .f32) : sProp 𝕄 :=
  iprop(pts c main_arg0 (m ((c : Thread nD τ).loc main_arg0)) ∗ pts c main_arg1 (m ((c : Thread nD τ).loc main_arg1))
    ∗ pts c main_arg2 (m ((c : Thread nD τ).loc main_arg2)) ∗ pts c main_v12 (o : Buf (Elt F) ((c : Thread nD τ).loc main_v12)))

theorem arrays_eq4 (c : Dev nD) (Fn : (w : Fin 4) → Buf (Elt F) (((spec0 w).arr.view.loc (c : Thread nD τ)))) :
    (dats m c).arrays Fn = iprop(pts c main_arg0 (Fn 0) ∗ pts c main_arg1 (Fn 1) ∗ pts c main_arg2 (Fn 2) ∗ pts c main_v12 (Fn 3)) := by
  refine (Pipeline.PerCore.arrays_eq (Pipeline.pinD (pcfgs (F := F)) admD) (pdats m) 0 c arr_whole0
    (fun w => by unfold Dat.share; split <;> rfl) Fn).trans ?_
  exact bigSep_W0 _

theorem arrAt_last (c : Dev nD) : (dats m c).arrAt (3 : Fin 4) (cfgD (F := F) c).N = outAt m c := by
  refine (dats m c).arrAt_eq_of_after_last (3 : Fin 4) t0_1 ⟨rfl, fun t h => ?_, fun a => by fin_cases a; exact ⟨rfl, rfl⟩⟩ _ fun j => ?_
  · rcases fin_N0 t with rfl | rfl
    · rw [noflush_3] at h; exact absurd h Bool.false_ne_true
    · rfl
  · rfl

theorem arrays_first (c : Dev nD) : (dats m c).arrays ((dats m c).arrAt · 0) = arrs m c (m ((c : Thread nD τ).loc main_v12)) :=
  arrays_eq4 m c _

theorem arrays_last (c : Dev nD) : (dats m c).arrays ((dats m c).arrAt · (cfgD (F := F) c).N) = arrs m c (outAt m c) := by
  refine (arrays_eq4 m c _).trans ?_
  rw [arrAt_last, (dats m c).arrAt_in (0 : Fin 4) rfl _, (dats m c).arrAt_in (1 : Fin 4) rfl _, (dats m c).arrAt_in (2 : Fin 4) rfl _]
  rfl

/-- After the host operations the arrays are as launched and the table is computed. -/
theorem held_arrs (c : Dev nD) :
    (StableHlo.held (c : Thread nD τ) (Pipeline.ucRefs τ sig) (V1 m c) : sProp 𝕄) ⊢ iprop(arrs m c (m ((c : Thread nD τ).loc main_v12)) ∗ tabPts c) := by
  rw [StableHlo.held_sub_split (c : Thread nD τ) (show ([main_arg0, main_arg1, main_arg2, main_v12, main_v11].map (Proc.devRef (τ := τ) .tc)).toFinset ⊆ Pipeline.ucRefs τ sig by decide)]
  refine BIBase.Entails.trans sep_elim_left ?_
  unfold StableHlo.held
  have h0 := V1_of m c main_arg0 (by decide)
  have h1 := V1_of m c main_arg1 (by decide)
  have h2 := V1_of m c main_arg2 (by decide)
  have h3 := V1_of m c main_v12 (by decide)
  have h4 := v11_eq m c
  rw [bigSep_eq_bigSepL_of_eq ([main_arg0, main_arg1, main_arg2, main_v12, main_v11].map (Proc.devRef (τ := τ) .tc)) rfl (by decide)]
  refine (Entails.of_eq (show _ = iprop(pts c main_arg0 (V1 m c main_arg0) ∗ pts c main_arg1 (V1 m c main_arg1) ∗ pts c main_arg2 (V1 m c main_arg2)
    ∗ pts c main_v12 (V1 m c main_v12) ∗ pts c main_v11 (V1 m c main_v11)) from rfl)).trans ?_
  rw [h0, h1, h2, h3, h4]
  unfold arrs tabPts
  iintro ⟨A, B, C, D, E⟩
  isplitr [E]
  · isplitl [A]; · iexact A
    isplitl [B]; · iexact B
    isplitl [C]; · iexact C
    iexact D
  iexact E

theorem ownSems_eq (c : Dev nD) : (Pipeline.ownSems0 osem c : sProp 𝕄) = iprop(semVal (sendCell c 0) 0 ∗ semVal (sendCell c 1) 0 ∗ semVal (sendCell c 2) 0
    ∗ semVal (recvCell c 0) 0 ∗ semVal (recvCell c 1) 0 ∗ semVal (recvCell c 2) 0) := by
  unfold Pipeline.ownSems0
  exact bigSep_six _

theorem region_in (c : Dev nD) :
    iprop((∃ κ, ghost m κ c) ∗ tabPts (F := F) c ∗ Pipeline.scopedRest spec0 c) ⊢ Φ₀ m c := by
  rw [scopedRest0_eq]
  unfold Φ₀ lgAny sAny lAny
  iintro ⟨G, T, A, B, C, D, E⟩
  isplitl [G]; · iexact G
  isplitl [T]; · iexact T
  isplitl [A]; · iexact A
  isplitl [B]; · iexact B
  isplitl [C]; · iexact C
  iapply (rows_split c)
  isplitl [D]; · iexact D
  iexact E

theorem region_out (c : Dev nD) :
    Φ₂ (F := F) c ⊢ iprop(semVal (barCell c) 0 ∗ Pipeline.ownSems0 osem c ∗ Pipeline.scopedRest spec0 c) := by
  rw [scopedRest0_eq, ownSems_eq]
  unfold Φ₂ lgAny sAny lAny
  iintro ⟨T, A, B, C, D, E, S⟩
  ihave D := (rows_join c) $$ D
  icases D with ⟨D, D'⟩
  isplitl [E]; · iexact E
  isplitl [S]; · iexact S
  isplitl [A]; · iexact A
  isplitl [B]; · iexact B
  isplitl [C]; · iexact C
  isplitl [D]; · iexact D
  iexact D'

/-- What rides along the host operations: the exchange's start and the duties still owed. -/
def along (_ : Fin 2) (c : Dev nD) : sProp 𝕄 := iprop((∃ κ, carry m κ c) ∗ ∃ W, owes (c : Thread nD τ) (O₀ c) W)

theorem region_entry (c : Dev nD) :
    iprop((StableHlo.held (c : Thread nD τ) (Pipeline.ucRefs τ sig) (V1 m c) ∗ along m 0 c) ∗ Pipeline.ownSems0 osem c ∗ levAts L lv)
      ⊢ |={Set.univ}=> iprop((dats m c).arrays ((dats m c).arrAt · 0) ∗ Pipeline.prefHeld pre0 c (fun _ => fullShare) (pf (F := F) c)
          ∗ (dats m c).owesAt () 0 ∗ (∃ κ, ghost m κ c) ∗ emp) := by
  rw [arrays_first, prefHeld_eq]
  unfold along
  unfold Dat.owesAt Pipeline.owesWithin Dat.bound
  iintro ⟨⟨H, ⟨%κ, K⟩, ⟨%W, O⟩⟩, S, V⟩
  ihave H := (held_arrs m c) $$ H
  icases H with ⟨A, T⟩
  imod (ghost_of m κ c) $$ [K S V] with G
  · isplitl [K]; · iexact K
    isplitl [S]; · iapply (Entails.of_eq (show (Pipeline.ownSems0 osem c : sProp 𝕄) = bigSep Finset.univ fun k : Fin 6 => semVal (dmaCell (c, k)) 0 from rfl)) $$ S
    iexact V
  imodintro
  isplitl [A]; · iexact A
  isplitl [T]; · iexact T
  isplitl [O]
  · iexists W
    isplitr
    · ipureintro; exact fun _ _ => Or.inl trivial
    iexact O
  isplitl [G]; · iexact G
  iempintro

/-- What device `c` ends with. -/
def ended (c : Dev nD) : sProp 𝕄 := iprop(arrs m c (outAt m c) ∗ semVal (barCell c) 0)

theorem region_exit (c : Dev nD) :
    iprop((dats m c).arrays ((dats m c).arrAt · (cfgD (F := F) c).N) ∗ (dats m c).owesAt () (Fin.last (cfgD (F := F) c).N) ∗ semVal (barCell c) 0 ∗ emp)
      ⊢ |={Set.univ}=> iprop(ended m c ∗ ∃ W, owes (c : Thread nD τ) (0 : CellTallies nD τ sig Unit) W) := by
  rw [arrays_last]
  unfold Dat.owesAt Pipeline.owesWithin Dat.bound ended
  iintro ⟨A, ⟨%W, -, O⟩, B, -⟩
  imodintro
  isplitl [A B]
  · isplitl [A]; · iexact A
    iexact B
  iexists W
  iexact O

def region : Pipeline.PerCore.RegionSeg (pcfgs (F := F)) admD (pdats m) () defs₀ 𝒱₀ L lv 0 where
  win := winFacts0.to₀
  block_pos := block_pos0
  stage_whole := stage_whole0
  K := Fin 6
  osem := osem
  ho := ownSemFacts
  hbody c := (body_obligation m c).loose
  hwaits c := waits m c
  pre c := iprop(StableHlo.held (c : Thread nD τ) (Pipeline.ucRefs τ sig) (V1 m c) ∗ along m 0 c)
  post c := iprop(ended m c ∗ ∃ W, owes (c : Thread nD τ) (0 : CellTallies nD τ sig Unit) W)
  X c := iprop(∃ κ, ghost m κ c)
  Y c := semVal (barCell c) 0
  Z c := iprop(emp)
  hentry c := region_entry m c
  hin c := (sep_mono .rfl (sep_mono (Entails.of_eq (prefHeld_eq c)) .rfl)).trans (region_in m c)
  hout c := region_out c
  hexit c := region_exit m c

end Cert.Exch

end
-- ==== Proof.Run.lean ====
/-
The whole run of the program on the eight devices: launch, host operations, kernel, and what every final state holds.
-/
module

public import proofs.«01_k».proof.Proof.Region

@[expose] public section

noncomputable section

namespace Cert.Exch

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

def u₀ : UU :=
  (initOf (Pipeline.PerCore.cells (Pipeline.pinD (pcfgs (F := F)) admD) phinj) (Pipeline.PerCore.launchToks (Pipeline.pinD (pcfgs (F := F)) admD) phinj),
    launchOf barCells dmaCells allToks)

/-- The exchange's element rides to the launch whole, on device 0. -/
def G (c : Dev nD) : sProp 𝕄 := if c = 0 then BI.own (ER (F := F) (launchOf barCells dmaCells allToks)) else iprop(emp)

theorem bigSep_G : bigSep Finset.univ (G (F := F)) = (BI.own (ER (F := F) (launchOf barCells dmaCells allToks)) : sProp 𝕄) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev start (c : Dev nD) : sProp 𝕄 := iprop(StableHlo.held (c : Thread nD τ) (Pipeline.ucRefs τ sig) (V0 m c) ∗ along m 0 c)

/-- The launch deals every device its buffers, its dues and its part of the exchange. -/
theorem launch_init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (start m) : sProp 𝕄) := by
  have h1 (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(unscopedSems0 c ∗ Pipeline.launchCred O₀ c ∗ G c ∗ (unscopedBufs c (fun b => m ((c : Thread nD τ).loc b)) ∗ owes (c : Thread nD τ) (O₀ c) ∅)) : sProp 𝕄) := by
    iintro ⟨Hub, Hus, HO, Hcr, -, HG⟩
    isplitl [Hus]; · iexact Hus
    isplitl [Hcr]; · iexact Hcr
    isplitl [HG]; · iexact HG
    isplitl [Hub] <;> iassumption
  have h2 (c : Dev nD) : iprop((∃ κ, carry m κ c) ∗ (unscopedBufs c (fun b => m ((c : Thread nD τ).loc b)) ∗ owes (c : Thread nD τ) (O₀ c) ∅)) ⊢ start m c := by
    unfold start along
    rw [← Pipeline.unscopedBufs_held (Ix := Unit) (Name := ℕ) (U := UU) (Lvl := ℕ) c (V0 m c)]
    iintro ⟨K, B, O⟩
    isplitl [B]; · iexact B
    isplitl [K]; · iexact K
    iexists ∅; iexact O
  iintro ⟨H, -⟩
  ihave H := (show _ ⊢ iprop((bigSep Finset.univ fun c : Dev nD => unscopedSems0 c) ∗ (bigSep Finset.univ fun c : Dev nD => Pipeline.launchCred O₀ c)
        ∗ bigSep Finset.univ (G (F := F))
        ∗ bigSep Finset.univ fun c : Dev nD => iprop(unscopedBufs c (fun b => m ((c : Thread nD τ).loc b)) ∗ owes (c : Thread nD τ) (O₀ c) ∅))
      from by rw [← bigSep_sep', ← bigSep_sep', ← bigSep_sep']; exact bigSep_mono fun c _ => h1 c) $$ H
  icases H with ⟨Hs, Hc, HG, Hr⟩
  ihave HG := (Entails.of_eq (bigSep_G (F := F))) $$ HG
  imod (fund m) $$ [Hs Hc HG] with HK
  · isplitl [Hs]; · iexact Hs
    isplitl [Hc]; · iexact Hc
    iexact HG
  imodintro
  iapply (show iprop((bigSep Finset.univ fun c : Dev nD => iprop(∃ κ, carry m κ c))
        ∗ bigSep Finset.univ fun c : Dev nD => iprop(unscopedBufs c (fun b => m ((c : Thread nD τ).loc b)) ∗ owes (c : Thread nD τ) (O₀ c) ∅))
      ⊢ bigSep Finset.univ (start m) from by rw [← bigSep_sep']; exact bigSep_mono fun c _ => h2 c)
  isplitl [HK] <;> iassumption

/-- A run's items on device `c`: the host operations, then the kernel. -/
abbrev items (c : Dev nD) : List (Pipeline.PerCore.Seg (pcfgs (F := F)) admD (pdats m) () defs₀ 𝒱₀ L lv) :=
  [.host (seg0 m 𝒱₀ L lv (along m) c), .region (region m)]

/-- The final memory of device `c`. -/
def Done (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v12) = outAt m c

theorem ended_read (c : Dev nD) (s' : Phys nD τ sig (Elt F)) :
    iprop(ended m c ∗ SI s') ⊢ (|={Set.univ}=> iprop(⌜Done m c s'.mem ∧ s'.mem.sem (barCell c) = 0⌝ ∗ SI s') : sProp 𝕄) := by
  unfold ended arrs
  iintro ⟨⟨⟨A, B, C, D⟩, E⟩, HSI⟩
  icombine HSI A gives %ha
  icombine HSI B gives %hb
  icombine HSI C gives %hc
  icombine HSI D gives %hd
  icombine HSI E gives %he
  imodintro
  isplitr
  · ipureintro
    exact ⟨⟨Buf.eq_of_forall_mem_univ ha, Buf.eq_of_forall_mem_univ hb, Buf.eq_of_forall_mem_univ hc, Buf.eq_of_forall_mem_univ hd⟩, he⟩
  iexact HSI

-- the launch theorem's implicit arguments are found by unifying its conclusion with this one, which takes unfolding
-- plain definitions in a metavariable's type
set_option backward.isDefEq.respectTransparency.types false in
/-- The run, at any float values: every weakly fair execution terminates with every device's arguments as launched, its result
    the computed one, and every counter at zero. -/
theorem run_main : θ_run defs (onTc (τ := τ) (main (F := F))) ⟨m, fun _ => 0, ρ⟩ (fun r => (∀ c : Dev nD, Done m c r.2) ∧ r.2.sem = fun _ => 0) :=
  Pipeline.PerCore.θ_run_regions_kit_sems (pcfgs (F := F)) admD (pdats m) () phinj EP defs₀ 𝒱₀ L lv m ρ main (items m)
    (fun c Q => by
      rewrite [main_chain c, Pipeline.PerCore.Seg.run_eq_chain,
        show (items m c).map Pipeline.PerCore.Seg.prog = [
          StableHlo.seq (hostOps0 c),
          Prog.lift (.customCall (Pipeline.entry 0) ()) ] from rfl]
      dsimp (config := { failIfUnchanged := false }) only
      exact .rfl)
    (fun c => by simp only [items, Pipeline.PerCore.Seg.pipes_host, Pipeline.PerCore.Seg.pipes_region, Pipeline.PerCore.Seg.pipes_nil]; decide)
    (O₀ := O₀) (hL := L_of_ne) (G := G (F := F)) (u₀ := u₀ (F := F))
    (hu₀ := by
      unfold u₀
      iintro Hu
      ihave H := (ownU_pair _ _) $$ Hu
      icases H with ⟨HP, HX⟩
      imodintro
      isplitl [HP]; · iexact HP
      rw [bigSep_G]; iexact HX)
    (T₀ := start m) (Tₙ := ended m)
    (hch := fun c => ⟨.rfl, .rfl, .rfl⟩)
    (hinit := launch_init m ρ)
    (QY := fun c s => Done m c s ∧ s.sem (barCell c) = 0)
    (hfin := ended_read m)
    (hQ := fun s h hs => ⟨fun c => (h c).1, sem_eq_zero hs fun c sm hsm => by
      have hl : ∀ sm : SemLoc sig, sm.isScoped .tc = false → sm = .reg barS := by decide
      rw [hl sm hsm]
      exact (h c).2⟩)

end Cert.Exch

end
-- ==== Proof.Kern.lean ====
/-
The idealized kernel's stored vectors read at one row (and column): dot products, sums of exponentials, the label's
logit picked out by a comparison of words, one exchange step, and the result.
-/
module

public import proofs.«01_k».proof.Proof.Vals
public import Idealize.ShloMosaic.Lib.Pointwise
public import Idealize.ShloMosaic.Lib.StableHlo.Predicate

@[expose] public section

set_option maxRecDepth 16384

noncomputable section

namespace Cert.Exch

open Cert.KernelIdeal Cert.KernelIdeal.Gen
open Idealize.ShloMosaic
open Idealize.ShloMosaic.TcCoe
open Idealize.SL.Sem

/-- A logit is the dot product of the row and the column. -/
theorem logit_at (x : FVec Ideal S1024x2048 .f32) (w : FVec Ideal S2048x2048 .f32) (r : Fin 1024) (l : Fin 2048) :
    k0_pay17 (F := Ideal) x w (ix2 r l) = ∑ k : Fin 2048, x (ix2 r k) * w (ix2 k l) := by
  pointwise [k0_pay17]

/-- The running sum gains the row's exponentials. -/
theorem expsum_at (lg : FVec Ideal S1024x2048 .f32) (s : FVec Ideal S1024 .f32) (r : Fin 1024) :
    k0_pay18 (F := Ideal) lg s (ix1 r) = s (ix1 r) + ∑ l : Fin 2048, Ideal.exp (lg (ix2 r l)) := by
  pointwise [k0_pay18]

/-- The running pick gains the row's logits at the columns whose index is the wanted word. -/
theorem pick_at (lg : FVec Ideal S1024x2048 .f32) (w : IVec S1024x1 32) (s : FVec Ideal S1024 .f32) (r : Fin 1024) :
    k0_pay1 (F := Ideal) lg cols w s (ix1 r)
      = s (ix1 r) + ∑ l : Fin 2048, if BitVec.ofNat 32 l.val = w (ix2 r 0) then lg (ix2 r l) else 0 := by
  pointwise [k0_pay1, cols]
  refine congrArg _ (Finset.sum_congr rfl fun l _ => ?_)
  by_cases h : BitVec.ofNat 32 l.val = w (ix2 r 0)
  · rw [if_pos h, StableHlo.Predicate.cmpi_eq_iff.2 h]; rfl
  · rw [if_neg h, (BitVec.eq_zero_or_eq_one _).resolve_right fun e => h (StableHlo.Predicate.cmpi_eq_iff.1 e)]; rfl

theorem zero15_at (r : Fin 1024) : k0_pay15 (F := Ideal) (ix1 r) = 0 := by pointwise [k0_pay15]
theorem zero16_at (r : Fin 1024) : k0_pay16 (F := Ideal) (ix1 r) = 0 := by pointwise [k0_pay16]

/-- One exchange step adds the partner's value. -/
theorem ex_at (i : Fin 3) (f : Dev nD → FVec Ideal S1024 .f32) (c : Dev nD) (r : Fin 1024) :
    ex (F := Ideal) i f c (ix1 r) = f c (ix1 r) + f (peer i c) (ix1 r) := by
  pointwise [ex, k0_pay7, k0_pay5]

theorem out_at (s l : FVec Ideal S1024 .f32) (r : Fin 1024) :
    k0_pay4 (F := Ideal) s l (ix1 r) = Ideal.log (s (ix1 r)) - l (ix1 r) := by
  pointwise [k0_pay4]

/-- The word a column's index is compared with: the label less the first vocabulary index of the block. -/
theorem want_at (i : grid0.Coords) (c : Dev nD) (q : BitVec 32) (lab : IVec S1024 32) (r : Fin 1024) :
    k0_pay19 (F := Ideal) i c q lab (ix2 r 0)
      = lab (ix1 r) - (Scalar.muli (Scalar.remsi (Scalar.divsi (Dev.word c) 1#32) 2#32) 16384#32
          + (q * 2#32 + BitVec.ofNat 32 (i 0).val) * 2048#32) := by
  pointwise [k0_pay19]
  rfl

end Cert.Exch

end
-- ==== Proof.Lse.lean ====
/-
The scalar mathematics: the logarithm of a sum of exponentials does not change when the largest logit is taken out
first, and sixteen blocks of the vocabulary, two to a device, summed by three pairwise exchanges, are the whole
vocabulary on every device.
-/
module

public import Idealize.ShloMosaic.PureOps.Ideal
public import Idealize.ShloMosaic.Lib.Pointwise

@[expose] public section

noncomputable section

namespace Cert.Lse

open Idealize.ShloMosaic

/-- A finite sum of reals, read in the extended reals, is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The largest of finitely many reals, starting from `⊥`, is a real. -/
theorem fold_max_real {n : ℕ} (f : Fin (n + 1) → ℝ) :
    ∃ M : ℝ, Finset.univ.fold max (⊥ : EReal) (fun v => (f v : EReal)) = M := by
  have h : ∀ s : Finset (Fin (n + 1)), s.Nonempty → ∃ M : ℝ, s.fold max (⊥ : EReal) (fun v => (f v : EReal)) = M := by
    intro s hs
    induction hs using Finset.Nonempty.cons_induction with
    | singleton a => exact ⟨f a, by simp⟩
    | cons a s ha hs ih =>
      obtain ⟨M, hM⟩ := ih
      exact ⟨max (f a) M, by rw [Finset.fold_cons, hM]; exact (EReal.coe_strictMono.monotone.map_max).symm⟩
  exact h _ Finset.univ_nonempty

/-- Taking any real `M` out of the exponentials and adding it back leaves the logarithm of their sum. -/
theorem shift {n : ℕ} (f : Fin (n + 1) → ℝ) (M : ℝ) :
    (M : EReal) + Ideal.log (∑ v, Ideal.exp ((f v : EReal) - M)) = Ideal.log (∑ v, Ideal.exp (f v : EReal)) := by
  have hpos : ∀ g : Fin (n + 1) → ℝ, 0 < ∑ v, Real.exp (g v) := fun g =>
    Finset.sum_pos (fun v _ => Real.exp_pos _) Finset.univ_nonempty
  have e1 : ∑ v, Ideal.exp ((f v : EReal) - M) = ((∑ v, Real.exp (f v - M) : ℝ) : EReal) := by
    rw [← coe_sum]
    exact Finset.sum_congr rfl fun v _ => by rw [← EReal.coe_sub, Ideal.exp_coe]
  have e2 : ∑ v, Ideal.exp (f v : EReal) = ((∑ v, Real.exp (f v) : ℝ) : EReal) := by
    rw [← coe_sum]
    exact Finset.sum_congr rfl fun v _ => Ideal.exp_coe _
  have e3 : ∑ v, Real.exp (f v) = Real.exp M * ∑ v, Real.exp (f v - M) := by
    rw [Finset.mul_sum]
    exact Finset.sum_congr rfl fun v _ => by rw [← Real.exp_add]; congr 1; ring
  rw [e1, e2, Ideal.log_coe, Ideal.log_coe, if_neg (not_le.2 (hpos _)), if_neg (not_le.2 (hpos f)), ← EReal.coe_add, e3,
    Real.log_mul (Real.exp_pos _).ne' (hpos _).ne', Real.log_exp]

/-- The pattern of minus infinity. -/
theorem neg_inf : Ideal.ofBits .f32 0xFF800000#32 = ⊥ := by
  simp only [Ideal.ofBits, Ideal.ieee]
  decide

/-- The pattern of infinity. -/
theorem pos_inf : Ideal.ofBits .f32 0x7F800000#32 = ⊤ := by
  simp only [Ideal.ofBits, Ideal.ieee]
  decide

/-- An extended real whose absolute value is below infinity is a real. -/
theorem real_of_abs_lt {x : EReal} (h : max x (-x) < ⊤) : ∃ r : ℝ, x = r := by
  induction x using EReal.rec with
  | bot => exact absurd h (by simp)
  | top => exact absurd h (by simp)
  | coe r => exact ⟨r, rfl⟩

/-! ## The blocks -/

/-- The vocabulary block (of 2048) that device `c` reads at its point `t`. -/
def blk (c : Fin 8) (t : Fin 2) : Fin 16 := ⟨c.val % 2 * 8 + c.val / 2 * 2 + t.val, by omega⟩

/-- The exchange partner along mesh axis `i`. -/
def mate (i : Fin 3) (c : Fin 8) : Fin 8 := ⟨c.val ^^^ (4 >>> i.val), by revert c i; decide⟩

/-- One exchange step. -/
def step (i : Fin 3) (f : Fin 8 → EReal) (c : Fin 8) : EReal := f c + f (mate i c)

/-- Three exchange steps leave, on every device, the sum over the devices. -/
theorem steps_all (H : Fin 8 → EReal) (c : Fin 8) : step 2 (step 1 (step 0 H)) c = ∑ d, H d := by
  rw [Fin.sum_univ_eight]
  rcases (by decide : ∀ c : Fin 8, c = 0 ∨ c = 1 ∨ c = 2 ∨ c = 3 ∨ c = 4 ∨ c = 5 ∨ c = 6 ∨ c = 7) c with
    rfl | rfl | rfl | rfl | rfl | rfl | rfl | rfl <;>
  · simp only [step, (by decide : mate 0 0 = 4), (by decide : mate 0 1 = 5), (by decide : mate 0 2 = 6), (by decide : mate 0 3 = 7), (by decide : mate 0 4 = 0), (by decide : mate 0 5 = 1), (by decide : mate 0 6 = 2), (by decide : mate 0 7 = 3), (by decide : mate 1 0 = 2), (by decide : mate 1 1 = 3), (by decide : mate 1 2 = 0), (by decide : mate 1 3 = 1), (by decide : mate 1 4 = 6), (by decide : mate 1 5 = 7), (by decide : mate 1 6 = 4), (by decide : mate 1 7 = 5), (by decide : mate 2 0 = 1), (by decide : mate 2 1 = 0), (by decide : mate 2 2 = 3), (by decide : mate 2 3 = 2), (by decide : mate 2 4 = 5), (by decide : mate 2 5 = 4), (by decide : mate 2 6 = 7), (by decide : mate 2 7 = 6)]
    ac_rfl

/-- When each device holds its two blocks, every device ends with the sum over all the blocks. -/
theorem steps_sum (G : Fin 16 → EReal) (c : Fin 8) :
    step 2 (step 1 (step 0 fun c => 0 + G (blk c 0) + G (blk c 1))) c = ∑ b, G b := by
  rw [steps_all]
  have h : ∀ d : Fin 8, 0 + G (blk d 0) + G (blk d 1) = ∑ t : Fin 2, G (blk d t) := fun d => by
    rw [Fin.sum_univ_two, zero_add]
  rw [Finset.sum_congr rfl fun d _ => h d, ← Fintype.sum_prod_type']
  exact Fintype.sum_bijective (fun p : Fin 8 × Fin 2 => blk p.1 p.2) (by decide) _ _ fun _ => rfl

/-- The whole vocabulary block by block. -/
theorem sum_blocks (f : Fin 32768 → EReal) :
    ∑ v, f v = ∑ b : Fin 16, ∑ l : Fin 2048, f ⟨b.val * 2048 + l.val, by omega⟩ :=
  Fin.sum_univ_tiles 16 2048 rfl f

end Cert.Lse

end
-- ==== Proof.Ref.lean ====
/-
The reference's composed term read at one row: the largest logit plus the logarithm of the sum of the exponentials of
the differences, less the logit at the label.
-/
module

public import proofs.«01_k».proof.Proof.Gen.ReferenceIdeal
public import proofs.«01_k».proof.Proof.Gen.ReferenceIdeal.Run
public import proofs.«01_k».proof.Proof.Lse
public import Idealize.ShloMosaic.Lib.Pointwise
public import Idealize.ShloMosaic.Lib.StableHlo.Predicate

@[expose] public section

set_option maxRecDepth 16384

noncomputable section

namespace Cert.Refv

open Cert.ReferenceIdeal Cert.ReferenceIdeal.Gen
open Idealize.ShloMosaic
open Idealize.ShloMosaic.TcCoe
open Idealize.SL.Sem

/-- All the logits. -/
def LG (x : FVec Ideal S1024x2048 .f32) (W : FVec Ideal S2048x32768 .f32) : FVec Ideal S1024x32768 .f32 :=
  Host.dotGeneral dot_S1024x2048_S2048x32768_S1024x32768_1_0_0_1_n_n none x W
/-- The rows' largest logits. -/
def MX (lg : FVec Ideal S1024x32768 .f32) : FVec Ideal S1024 .f32 :=
  Host.reduce FloatOps.maximumf lg (constant S_ .f32 0xFF800000#32) reducesTo_S1024x32768_S1024_d1 h_S_
/-- The rows' logarithms of sums of exponentials. -/
def LSE (lg : FVec Ideal S1024x32768 .f32) (mx : FVec Ideal S1024 .f32) : FVec Ideal S1024 .f32 :=
  shapeCast _ (addf (broadcastInDim S1024x1 ![0] bcast_S1024_S1024x1_0 mx) (Host.log (broadcastInDim S1024x1 ![0] bcast_S1024_S1024x1_0 (Host.reduceAdd (Host.exp (subf lg (broadcastInDim S1024x32768 ![0, 1] bcast_S1024x1_S1024x32768_0_1 (broadcastInDim S1024x1 ![0] bcast_S1024_S1024x1_0 mx)))) (constant S_ .f32 0x00000000#32) reducesTo_S1024x32768_S1024_d1 h_S_)))) shapeCasts_S1024x1_S1024
/-- Where each row's logit is looked up: the row, and its label. -/
def IX (lab : IVec S1024 32) : IVec S1024x2 32 :=
  concatenate S1024x2 1 [⟨S1024x1, (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))⟩, ⟨S1024x1, (broadcastInDim S1024x1 ![0] bcast_S1024_S1024x1_0 (select (cmpi .slt lab (broadcastInDim S1024 ![] bcast_S_S1024 (constantI S_ 32 0#32))) (addi lab (broadcastInDim S1024 ![] bcast_S_S1024 (constantI S_ 32 32768#32))) lab))⟩] concatenates_S1024x1_S1024x1_S1024x2_d1
/-- The reference's result. -/
def REF (x : FVec Ideal S1024x2048 .f32) (W : FVec Ideal S2048x32768 .f32) (lab : IVec S1024 32) : FVec Ideal S1024 .f32 :=
  subf (LSE (LG x W) (MX (LG x W))) (Host.gather gather_S1024x32768_S1024x2_S1024_n_01_n_n_01_1_11 (LG x W) (IX lab))

theorem LG_at (x : FVec Ideal S1024x2048 .f32) (W : FVec Ideal S2048x32768 .f32) (r : Fin 1024) (v : Fin 32768) :
    LG x W (ix2 r v) = ∑ k : Fin 2048, x (ix2 r k) * W (ix2 k v) := by
  pointwise [LG]

theorem MX_at (lg : FVec Ideal S1024x32768 .f32) (r : Fin 1024) :
    MX lg (ix1 r) = Finset.univ.fold max (Ideal.ofBits .f32 0xFF800000#32) fun v : Fin 32768 => lg (ix2 r v) := by
  pointwise [MX]

theorem LSE_at (lg : FVec Ideal S1024x32768 .f32) (mx : FVec Ideal S1024 .f32) (r : Fin 1024) :
    LSE lg mx (ix1 r) = mx (ix1 r) + Ideal.log (∑ v : Fin 32768, Ideal.exp (lg (ix2 r v) - mx (ix1 r))) := by
  pointwise [LSE]

/-- A word below 2³¹ is not negative. -/
theorem slt_zero (w : BitVec 32) (h : w.toNat < 2 ^ 31) : IntOp.cmpi .slt w 0#32 = 0#1 := by
  have h' : ¬ IntOp.cmpi .slt w 0#32 = 1#1 := by
    rw [StableHlo.Predicate.slt_iff_toNat h (by decide)]
    exact Nat.not_lt_zero _
  rcases BitVec.eq_zero_or_eq_one (IntOp.cmpi .slt w 0#32) with e | e
  · exact e
  · exact absurd e h'

theorem IX_row (lab : IVec S1024 32) (r : Fin 1024) : IX lab (ix2 r 0) = BitVec.ofNat 32 r.val := by
  pointwise [IX]
  rw [slt_zero _ (by rw [BitVec.toNat_ofNat]; omega)]
  rfl
theorem IX_lab (lab : IVec S1024 32) (r : Fin 1024) (h : (lab (ix1 r)).toNat < 32768) : IX lab (ix2 r 1) = lab (ix1 r) := by
  pointwise [IX]
  rw [slt_zero _ (by omega)]
  rfl

/-- Where component `a` of row `r`'s start index is read. -/
theorem start_at (r : Fin 1024) (a : Fin 2) :
    GatherDims.siIdx gather_S1024x32768_S1024x2_S1024_n_01_n_n_01_1_11 (ix1 r) a = ix2 r a := by
  funext b
  match b with
  | ⟨0, _⟩ => rfl
  | ⟨1, _⟩ => rfl

/-- The look-up reads the logit at the row and the label. -/
theorem take_at (lg : FVec Ideal S1024x32768 .f32) (ix : IVec S1024x2 32) (r : Fin 1024) (v : Fin 32768)
    (h0 : ix (ix2 r 0) = BitVec.ofNat 32 r.val) (h1 : ix (ix2 r 1) = BitVec.ofNat 32 v.val) :
    Host.gather gather_S1024x32768_S1024x2_S1024_n_01_n_n_01_1_11 lg ix (ix1 r) = lg (ix2 r v) := by
  have key : ∀ (a : Fin 2) (n N : ℕ), n < N → N ≤ 32768 → ix (ix2 r a) = BitVec.ofNat 32 n →
      min (ix (GatherDims.siIdx gather_S1024x32768_S1024x2_S1024_n_01_n_n_01_1_11 (ix1 r) a)).toInt.toNat (N - 1) = n := by
    intro a n N hn hN h
    rw [start_at, h, StableHlo.Predicate.toInt_ofNat_small n (by omega)]
    omega
  refine congrArg lg (funext fun a => Fin.ext ?_)
  match a with
  | ⟨0, _⟩ => exact key 0 r.val 1024 r.isLt (by omega) h0
  | ⟨1, _⟩ => exact key 1 v.val 32768 v.isLt (by omega) h1

theorem sub_at (a b : FVec Ideal S1024 .f32) (i : S1024.Idx) : subf a b i = a i - b i := rfl

/-- The label's logit is looked up. -/
theorem take_label (lg : FVec Ideal S1024x32768 .f32) (lab : IVec S1024 32) (r : Fin 1024) (u : Fin 32768) (hu : (lab (ix1 r)).toNat = u.val) :
    Host.gather gather_S1024x32768_S1024x2_S1024_n_01_n_n_01_1_11 lg (IX lab) (ix1 r) = lg (ix2 r u) :=
  take_at lg (IX lab) r u (IX_row lab r) ((IX_lab lab r (hu ▸ u.isLt)).trans (by rw [← hu, BitVec.ofNat_toNat, BitVec.setWidth_eq]))

/-- The largest of a row. -/
theorem MX_row (lg : FVec Ideal S1024x32768 .f32) (r : Fin 1024) (g : Fin 32768 → EReal) (hg : ∀ v, lg (ix2 r v) = g v) :
    MX lg (ix1 r) = Finset.univ.fold max (⊥ : EReal) g := by
  rw [MX_at, Lse.neg_inf]
  exact Finset.fold_congr fun v _ => hg v

/-- The result at a row, from the row's logits `g`. -/
theorem row_at (lg : FVec Ideal S1024x32768 .f32) (lab : IVec S1024 32) (r : Fin 1024) (u : Fin 32768) (hu : (lab (ix1 r)).toNat = u.val)
    (g : Fin 32768 → EReal) (hg : ∀ v, lg (ix2 r v) = g v) (M : EReal) (hM : Finset.univ.fold max (⊥ : EReal) g = M) :
    subf (LSE lg (MX lg)) (Host.gather gather_S1024x32768_S1024x2_S1024_n_01_n_n_01_1_11 lg (IX lab)) (ix1 r)
      = (M + Ideal.log (∑ v : Fin 32768, Ideal.exp (g v - M))) - g u := by
  rw [sub_at, LSE_at, MX_row lg r g hg, hM, take_label lg lab r u hu, hg]
  refine congrArg (fun s => M + Ideal.log s - g u) (Finset.sum_congr rfl fun v _ => ?_)
  rw [hg]

/-- The reference's result at a row whose logits are the reals `g`. -/
theorem REF_at (x : FVec Ideal S1024x2048 .f32) (W : FVec Ideal S2048x32768 .f32) (lab : IVec S1024 32) (r : Fin 1024)
    (u : Fin 32768) (hu : (lab (ix1 r)).toNat = u.val) (g : Fin 32768 → ℝ) (hg : ∀ v : Fin 32768, ∑ k : Fin 2048, x (ix2 r k) * W (ix2 k v) = (g v : EReal)) :
    REF x W lab (ix1 r) = Ideal.log (∑ v : Fin 32768, Ideal.exp (g v : EReal)) - (g u : EReal) := by
  obtain ⟨M, hM⟩ := Lse.fold_max_real (n := 32767) g
  unfold REF
  rw [row_at (LG x W) lab r u hu (fun v => (g v : EReal)) (fun v => (LG_at x W r v).trans (hg v)) M hM]
  exact congrArg (fun s => s - (g u : EReal)) (Lse.shift (n := 32767) g M)

end Cert.Refv

end
-- ==== Proof.Value.lean ====
/-
The value equation: at finite inputs and labels in the vocabulary, every device's result is the reference's.
-/
module

public import proofs.«01_k».proof.Proof.Kern
public import proofs.«01_k».proof.Proof.Lse
public import proofs.«01_k».proof.Proof.Ref
public import Idealize.ShloMosaic.Lib.Pipeline.ValueKit
public import Idealize.ShloMosaic.Lib.Layout

@[expose] public section

set_option maxRecDepth 16384

noncomputable section

namespace Cert.Exch

open Cert.KernelIdeal Cert.KernelIdeal.Gen
open Idealize.ShloMosaic
open Idealize.ShloMosaic.TcCoe
open Idealize.SL.Sem

variable (m : (ℓ : Loc nD τ sig) → Buf (Elt Ideal) ℓ)

/-- Where the window on `W` stands at point `t`. -/
theorem at_W (c : Dev nD) (t : Fin grid0.N) : ((cfgD (F := Ideal) c).win (1 : Fin 4)).index t = ![0, c.val / 2 * 2 + (grid0.coords t 0).val] :=
  transform1_eq (F := Ideal) c (grid0.coords t)

/-- The grid has one axis, so the point is its coordinate. -/
theorem coord_val (t : Fin grid0.N) : (grid0.coords t 0).val = t.val := by revert t; decide

/-- Every device's block of `x` is all of it. -/
theorem x_read (c : Dev nD) : xAt m c = m ((c : Thread nD τ).loc main_arg0) := by
  funext j
  unfold xAt
  blk_simp
  refine congrArg _ (funext fun a => Fin.ext ?_)
  refine (Pipeline.Window.rect_emb_val _ _ _ _).trans ?_
  match a with
  | ⟨0, _⟩ => exact Nat.zero_add _
  | ⟨1, _⟩ => exact Nat.zero_add _

/-- Every device's block of the labels is all of them. -/
theorem lab_read (c : Dev nD) : labAt m c = m ((c : Thread nD τ).loc main_arg2) := by
  funext j
  unfold labAt
  blk_simp
  refine congrArg _ (funext fun a => Fin.ext ?_)
  refine (Pipeline.Window.rect_emb_val _ _ _ _).trans ?_
  match a with
  | ⟨0, _⟩ => exact Nat.zero_add _

/-- The block of `W` read at point `t`: 2048 columns of the device's shard. -/
theorem w_read (c : Dev nD) (t : Fin grid0.N) (k : Fin 2048) (l : Fin 2048) :
    wAt m c t (ix2 k l) = m ((c : Thread nD τ).loc main_arg1) (ix2 k ⟨(c.val / 2 * 2 + t.val) * 2048 + l.val, by
      have h := c.isLt; have h' := t.isLt; change c.val < 8 at h; change t.val < 2 at h'; omega⟩) := by
  unfold wAt
  blk_simp
  refine congrArg _ (funext fun a => Fin.ext ?_)
  refine (Pipeline.Window.rect_emb_val _ _ _ _).trans ?_
  rw [at_W, coord_val]
  match a with
  | ⟨0, _⟩ => exact Nat.zero_add _
  | ⟨1, _⟩ => rfl

/-! ## One device's terms as parts of the whole vocabulary -/

section

variable (x : FVec Ideal S1024x2048 .f32) (W : FVec Ideal ⟨2, ![2048, 32768]⟩ .f32) (lab : IVec S1024 32)

/-- A logit. -/
def logit (r : Fin 1024) (v : Fin 32768) : EReal := ∑ k : Fin 2048, x (ix2 r k) * W (ix2 k v)

/-- What the devices hold of the whole arrays. -/
structure Held : Prop where
  x : ∀ c : Dev nD, m ((c : Thread nD τ).loc main_arg0) = x
  W : ∀ c : Dev nD, m ((c : Thread nD τ).loc main_arg1)
    = Layout.blockN ⟨2, ![2048, 16384]⟩ ⟨2, ![2048, 32768]⟩ (Layout.meshBlock [2, 2, 2] ![[], [2]] c) W
  lab : ∀ c : Dev nD, m ((c : Thread nD τ).loc main_arg2) = lab

/-- A device's shard of `W` is one half of the columns. -/
theorem shard_at (c : Dev nD) (k : Fin 2048) (l : Fin 16384) :
    (Layout.blockN ⟨2, ![2048, 16384]⟩ ⟨2, ![2048, 32768]⟩ (Layout.meshBlock [2, 2, 2] ![[], [2]] c) W : (⟨2, ![2048, 16384]⟩ : Shape).Idx → EReal) (ix2 k l)
      = W (ix2 k ⟨c.val % 2 * 16384 + l.val, by omega⟩) := by
  rw [Layout.blockN_apply]
  refine congrArg W (funext fun a => Fin.ext ?_)
  rw [Layout.TilesN.idx_val]
  match a with
  | ⟨0, _⟩ => exact (congrArg (· + k.val) (Nat.zero_mul _)).trans (Nat.zero_add _)
  | ⟨1, _⟩ =>
    have key : ∀ c : Dev nD, (Layout.meshBlock [2, 2, 2] ![[], [2]] c (by decide) (1 : Fin 2)).val = c.val % 2 := by decide
    exact congrArg (· * 16384 + l.val) (key c)

variable {m x W lab}

/-- The block's logits are logits. -/
theorem lg_at (h : Held m x W lab) (c : Dev nD) (t : Fin 2) (r : Fin 1024) (l : Fin 2048) :
    lgAt m c t (ix2 r l) = logit x W r ⟨(Lse.blk c t).val * 2048 + l.val, by omega⟩ := by
  unfold lgAt
  rw [logit_at]
  refine Finset.sum_congr rfl fun k _ => ?_
  have e : wAt m c t (ix2 k l) = W (ix2 k ⟨(Lse.blk c t).val * 2048 + l.val, by omega⟩) := by
    refine (w_read m c t k l).trans ?_
    rw [h.W c]
    refine (shard_at W c k _).trans (congrArg W ?_)
    refine congrArg (ix2 k) (Fin.ext ?_)
    show c.val % 2 * 16384 + ((c.val / 2 * 2 + t.val) * 2048 + l.val) = (c.val % 2 * 8 + c.val / 2 * 2 + t.val) * 2048 + l.val
    omega
  rw [x_read, h.x c, e]

/-- The device's sum of exponentials is over its two blocks. -/
theorem sTot_at (h : Held m x W lab) (c : Dev nD) (r : Fin 1024) :
    sTot m c (ix1 r) = 0 + (∑ l : Fin 2048, Ideal.exp (logit x W r ⟨(Lse.blk c 0).val * 2048 + l.val, by omega⟩))
      + ∑ l : Fin 2048, Ideal.exp (logit x W r ⟨(Lse.blk c 1).val * 2048 + l.val, by omega⟩) := by
  unfold sTot s1
  rw [expsum_at, expsum_at, zero15_at]
  refine congrArg₂ (· + ·) (congrArg (0 + ·) ?_) ?_ <;> refine Finset.sum_congr rfl fun l _ => congrArg Ideal.exp ?_
  · exact lg_at h c 0 r l
  · exact lg_at h c 1 r l

/-- The first vocabulary index of the block, as the word the kernel computes. -/
theorem off_word (c : Dev nD) (t : Fin 2) :
    Scalar.muli (Scalar.remsi (Scalar.divsi (Dev.word c) 1#32) 2#32) 16384#32
      + (BitVec.ofNat 32 (c.val / 2) * 2#32 + BitVec.ofNat 32 (grid0.coords t 0).val) * 2048#32 = BitVec.ofNat 32 ((Lse.blk c t).val * 2048) := by
  revert c t; decide

/-- Column `l` of the block is the label's exactly when the label is its vocabulary index. -/
theorem word_iff (b : Fin 16) (l : Fin 2048) (w : BitVec 32) (hw : w.toNat < 32768) :
    BitVec.ofNat 32 l.val = w - BitVec.ofNat 32 (b.val * 2048) ↔ (⟨b.val * 2048 + l.val, by omega⟩ : Fin 32768) = ⟨w.toNat, hw⟩ := by
  rw [Fin.mk.injEq, ← BitVec.toNat_inj, BitVec.toNat_sub, BitVec.toNat_ofNat, BitVec.toNat_ofNat]
  have := b.isLt; have := l.isLt
  omega

/-- The logit of vocabulary index `v` where that is the label, else zero. -/
def pick (x : FVec Ideal S1024x2048 .f32) (W : FVec Ideal ⟨2, ![2048, 32768]⟩ .f32) (r : Fin 1024) (u v : Fin 32768) : EReal :=
  if v = u then logit x W r v else 0

/-- The device's pick is over its two blocks. -/
theorem lTot_at (h : Held m x W lab) (c : Dev nD) (r : Fin 1024) (hl : (lab (ix1 r)).toNat < 32768) :
    lTot m c (ix1 r) = 0 + (∑ l : Fin 2048, pick x W r ⟨_, hl⟩ ⟨(Lse.blk c 0).val * 2048 + l.val, by omega⟩)
      + ∑ l : Fin 2048, pick x W r ⟨_, hl⟩ ⟨(Lse.blk c 1).val * 2048 + l.val, by omega⟩ := by
  have key : ∀ (t : Fin 2) (l : Fin 2048),
      (if BitVec.ofNat 32 l.val = colAt m c t (ix2 r 0) then lgAt m c t (ix2 r l) else 0)
        = pick x W r ⟨_, hl⟩ ⟨(Lse.blk c t).val * 2048 + l.val, by omega⟩ := by
    intro t l
    have e : colAt m c t (ix2 r 0) = lab (ix1 r) - BitVec.ofNat 32 ((Lse.blk c t).val * 2048) := by
      unfold colAt
      rw [want_at, off_word, lab_read, h.lab c]
    rw [e, lg_at h c t r l]
    unfold pick
    exact if_congr (word_iff _ l _ hl) rfl rfl
  unfold lTot l1
  rw [pick_at, pick_at, zero16_at]
  refine congrArg₂ (· + ·) (congrArg (0 + ·) ?_) ?_ <;> refine Finset.sum_congr rfl fun l _ => ?_
  · exact key 0 l
  · exact key 1 l

/-! ## The exchange -/

/-- An exchange step, read at a row. -/
theorem ex_row (i : Fin 3) (f : Dev nD → FVec Ideal S1024 .f32) (r : Fin 1024) :
    (fun c => ex (F := Ideal) i f c (ix1 r)) = Lse.step i fun c => f c (ix1 r) := funext fun c => ex_at i f c r

/-- Three steps over values that are two blocks each leave the whole vocabulary's sum. -/
theorem ex_all (T : Dev nD → FVec Ideal S1024 .f32) (r : Fin 1024) (f : Fin 32768 → EReal)
    (hT : ∀ c : Dev nD, T c (ix1 r) = 0 + (∑ l : Fin 2048, f ⟨(Lse.blk c 0).val * 2048 + l.val, by omega⟩)
      + ∑ l : Fin 2048, f ⟨(Lse.blk c 1).val * 2048 + l.val, by omega⟩) (c : Dev nD) :
    ex (F := Ideal) 2 (ex 1 (ex 0 T)) c (ix1 r) = ∑ v, f v := by
  refine (congrFun (ex_row 2 _ r) c).trans ?_
  rw [ex_row 1, ex_row 0, funext hT, Lse.sum_blocks]
  exact Lse.steps_sum (fun b => ∑ l : Fin 2048, f ⟨b.val * 2048 + l.val, by omega⟩) c

/-- Every device's result at a row: the logarithm of the sum of all exponentials, less the label's logit. -/
theorem outAt_at (h : Held m x W lab) (c : Dev nD) (r : Fin 1024) (hl : (lab (ix1 r)).toNat < 32768) :
    outAt m c (ix1 r) = Ideal.log (∑ v, Ideal.exp (logit x W r v)) - logit x W r ⟨_, hl⟩ := by
  unfold outAt
  rw [out_at]
  refine congrArg₂ (· - ·) (congrArg Ideal.log ?_) ?_
  · exact ex_all (sTot m) r (fun v => Ideal.exp (logit x W r v)) (fun c => sTot_at h c r) c
  · refine (ex_all (lTot m) r (pick x W r ⟨_, hl⟩) (fun c => lTot_at h c r hl) c).trans ?_
    unfold pick
    rw [Finset.sum_ite_eq' Finset.univ, if_pos (Finset.mem_univ _)]

/-- A logit of real inputs is real. -/
theorem logit_real (hx : ∀ i, ∃ a : ℝ, x i = (a : EReal)) (hW : ∀ i, ∃ a : ℝ, W i = (a : EReal)) (r : Fin 1024) :
    ∃ f : Fin 32768 → ℝ, ∀ v, logit x W r v = (f v : EReal) := by
  choose xr hxr using hx
  choose Wr hWr using hW
  refine ⟨fun v => ∑ k : Fin 2048, xr (ix2 r k) * Wr (ix2 k v), fun v => ?_⟩
  rw [← Lse.coe_sum]
  exact Finset.sum_congr rfl fun k _ => by rw [hxr, hWr, EReal.coe_mul]

/-- Every element of `W` lies in some device's shard. -/
theorem W_real (h : Held m x W lab)
    (hm : ∀ (c : Dev nD) (i : S2048x16384.Idx), ∃ a : ℝ, (m ((c : Thread nD τ).loc main_arg1) : FVec Ideal S2048x16384 .f32) i = (a : EReal)) :
    ∀ i, ∃ a : ℝ, W i = (a : EReal) := by
  intro i
  obtain ⟨k, v, rfl⟩ : ∃ (k : Fin 2048) (v : Fin 32768), i = ix2 k v := ⟨i 0, i 1, eq_ix2 i⟩
  have key : ∀ (c : Dev nD) (l : Fin 16384), c.val % 2 * 16384 + l.val = v.val → ∃ a : ℝ, W (ix2 k v) = (a : EReal) := by
    intro c l e
    obtain ⟨a, ha⟩ := hm c (ix2 k l)
    refine ⟨a, ?_⟩
    rw [h.W c] at ha
    refine Eq.trans (congrArg W (congrArg (ix2 k) (Fin.ext e.symm))) ((shard_at W c k l).symm.trans ha)
  by_cases hv : v.val < 16384
  · exact key 0 ⟨v.val, hv⟩ (by show 0 % 2 * 16384 + v.val = v.val; omega)
  · exact key 1 ⟨v.val - 16384, by omega⟩ (by show 1 % 2 * 16384 + (v.val - 16384) = v.val; omega)

/-- The value equation. -/
theorem out_eq (h : Held m x W lab) (hx : ∀ i, ∃ a : ℝ, x i = (a : EReal)) (hW : ∀ i, ∃ a : ℝ, W i = (a : EReal))
    (hl : ∀ i, (lab i).toNat < 32768) (c : Dev nD) : outAt m c = Refv.REF x W lab := by
  funext i
  obtain ⟨r, rfl⟩ : ∃ r : Fin 1024, i = ix1 r := ⟨i 0, eq_ix1 i⟩
  obtain ⟨f, hf⟩ := logit_real hx hW r
  refine (outAt_at h c r (hl _)).trans (Eq.trans ?_ (Refv.REF_at x W lab r ⟨_, hl _⟩ rfl f hf).symm)
  exact congrArg₂ (fun a b => Ideal.log a - b) (Finset.sum_congr rfl fun v _ => congrArg Ideal.exp (hf v)) (hf _)

end

end Cert.Exch

end
-- ==== Proof.Pred.lean ====
/-
What the precondition says of one device's blocks: the inputs are reals and the labels are vocabulary indices.
-/
module

public import proofs.«01_k».proof.Proof.Gen.Pre_finite_in_range_KernelIdeal
public import proofs.«01_k».proof.Proof.Lse
public import Idealize.ShloMosaic.Lib.ReduceAll
public import Idealize.ShloMosaic.Lib.StableHlo.Predicate

@[expose] public section

set_option maxRecDepth 16384

noncomputable section

namespace Cert.Pred

open Cert.Pre_finite_in_range_KernelIdeal Cert.Pre_finite_in_range_KernelIdeal.Facts
open Idealize.ShloMosaic

instance : Subsingleton S_.Idx := ⟨fun a b => funext fun i => i.elim0⟩

/-- Two bits and'ed to one are both one. -/
theorem and_one {a b : BitVec 1} (h : IntOp.andi a b = 1#1) : a = 1#1 ∧ b = 1#1 := by revert a b; decide

/-- An element whose absolute value compares below infinity is a real. -/
theorem real_of_bit {x : EReal} (h : Ideal.cmp .olt (max x (-x)) (Ideal.ofBits .f32 0x7F800000#32) = 1#1) : ∃ r : ℝ, x = r := by
  rw [Lse.pos_inf] at h
  exact Lse.real_of_abs_lt (of_decide_eq_true ((StableHlo.Predicate.ofBool_eq_one_iff _).1 h))

/-- A word that compares at least 0 and less than 32768, signed, is below 32768. -/
theorem label_of_bits {w : BitVec 32} (h0 : IntOp.cmpi .sge w 0#32 = 1#1) (h1 : IntOp.cmpi .slt w 32768#32 = 1#1) : w.toNat < 32768 := by
  have e0 : BitVec.sle 0#32 w = true := (StableHlo.Predicate.ofBool_eq_one_iff _).1 h0
  have e1 : BitVec.slt w 32768#32 = true := (StableHlo.Predicate.ofBool_eq_one_iff _).1 h1
  simp only [BitVec.sle, BitVec.slt, decide_eq_true_eq, BitVec.toInt_eq_toNat_cond, BitVec.toNat_ofNat] at e0 e1
  split at e0 <;> omega

/-- The precondition, read. -/
theorem read (x : FVec Ideal S1024x2048 .f32) (W : FVec Ideal S2048x16384 .f32) (lab : IVec S1024 32)
    (h : fn (F := Ideal) x W lab = fun _ => 1#1) :
    (∀ i, ∃ r : ℝ, x i = (r : EReal)) ∧ (∀ i, ∃ r : ℝ, W i = (r : EReal)) ∧ ∀ i, (lab i).toNat < 32768 := by
  have h := congrFun h (fun a => a.elim0)
  obtain ⟨h, hl⟩ := and_one h
  obtain ⟨hx, hw⟩ := and_one h
  refine ⟨fun i => ?_, fun i => ?_, fun i => ?_⟩
  · exact real_of_bit (Host.reduce_andi_all _ _ _ _ _ hx i)
  · exact real_of_bit (Host.reduce_andi_all _ _ _ _ _ hw i)
  · obtain ⟨h0, h1⟩ := and_one (Host.reduce_andi_all _ _ _ _ _ hl i)
    exact label_of_bits h0 h1

end Cert.Pred

end
-- ==== Proof.lean ====
/-
The proof of `Cert.Claim`: both frames of the kernel from its one run, the reference's run, and the equation of their results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.Pre_finite_in_range_KernelIdeal
public import proofs.«01_k».proof.Proof.Gen.Pre_finite_in_range_ReferenceIdeal
public import proofs.«01_k».proof.Proof.Gen.ReferenceIdeal.Run
public import proofs.«01_k».proof.Proof.Run
public import proofs.«01_k».proof.Proof.Value
public import proofs.«01_k».proof.Proof.Pred
public import Idealize.ShloMosaic.Adequacy
public import Idealize.ShloMosaic.Init
public import Idealize.ShloMosaic.Lib.Claim
public import Idealize.ShloMosaic.Lib.Tactic
public import Idealize.ShloMosaic.Lib.Quiescent

@[expose] public section

noncomputable section

namespace Cert.Proof

open Idealize.ShloMosaic Idealize.SL.Sem

/-- The kernel's frame said of the program's ideal text, which is the same text, at the machine's floats. -/
theorem frame_text : Cert.quiescent_Kernel = ∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) := by sl_kernel_rfl

/-- The kernel's run, at the machine's floats. -/
theorem frame_kernel : Cert.quiescent_Kernel := frame_text.mpr fun m ρ _ =>
  (θ_run Cert.KernelIdeal.defs _ _).mono (fun _ h => ⟨fun c => ⟨(h.1 c).1, (h.1 c).2.1, (h.1 c).2.2.1⟩, h.2⟩) (Cert.Exch.run_main (F := Bits) m ρ)

/-- The kernel's run, at the ideal floats. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩) (Cert.Exch.run_main (F := Ideal) m ρ)

/-- The reference's run; it has no counters. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- The kernel and the reference end with the same result. -/
theorem value : Cert.algebraic_KernelIdeal_ReferenceIdeal_pre_finite_in_range_KernelIdeal := by
  intro m g m' g' hpre hagree
  have h : Cert.Exch.Held m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) :=
    ⟨fun c => (hagree c).1, fun c => (hagree c).2.1, fun c => (hagree c).2.2⟩
  have hr := fun c => Cert.Pred.read _ _ _ (hpre c)
  have hx := (hr 0).1
  rw [h.x 0] at hx
  have hl := (hr 0).2.2
  rw [h.lab 0] at hl
  have hW := Cert.Exch.W_real h fun c => (hr c).2.1
  refine ⟨Cert.Refv.REF _ _ _, (θ_run Cert.KernelIdeal.defs _ _).mono (fun _ e c => ?_) (Cert.Exch.run_main (F := Ideal) m g),
    (θ_run Cert.ReferenceIdeal.defs _ _).mono (fun _ e => e 0) (Cert.ReferenceIdeal.Value.run (F := Ideal) m' g')⟩
  obtain ⟨e0, e1, e2, eo⟩ := e.1 c
  exact ⟨eo.trans (Cert.Exch.out_eq h hx hW hl c), e0, e1, e2⟩

theorem claim : Cert.Claim :=
  ⟨inferInstance, inferInstance, inferInstance, inferInstance, inferInstance,
    frame_kernel, frame_ideal, fun m ρ _ => frame_ideal m ρ trivial, frame_reference, fun m ρ _ => frame_reference m ρ trivial, trivial, value⟩

end Cert.Proof

end
